-- ==== Defs.lean ====
def Pre_Prop (m : (ℓ : Loc Cert.Prop.nD Cert.Prop.τ Cert.Prop.sig) → Buf (Elt Bits) ℓ) : Prop :=
  True

def Pre_PropIdeal (m : (ℓ : Loc Cert.PropIdeal.nD Cert.PropIdeal.τ Cert.PropIdeal.sig) → Buf (Elt Ideal) ℓ) : Prop :=
  True

def Pre_PropIdeal_finite [hPre_finite : Cert.Pre_finite.Facts] (m : (ℓ : Loc Cert.PropIdeal.nD Cert.PropIdeal.τ Cert.PropIdeal.sig) → Buf (Elt Ideal) ℓ) : Prop :=
  ∀ c : Dev Cert.PropIdeal.nD,
    (Cert.Pre_finite.fn (F := Ideal) (m ((c.tc : Thread Cert.PropIdeal.nD Cert.PropIdeal.τ).loc Cert.PropIdeal.main_arg0)) (m ((c.tc : Thread Cert.PropIdeal.nD Cert.PropIdeal.τ).loc Cert.PropIdeal.main_arg1)) (m ((c.tc : Thread Cert.PropIdeal.nD Cert.PropIdeal.τ).loc Cert.PropIdeal.main_arg2)) (m ((c.tc : Thread Cert.PropIdeal.nD Cert.PropIdeal.τ).loc Cert.PropIdeal.main_arg3)) (m ((c.tc : Thread Cert.PropIdeal.nD Cert.PropIdeal.τ).loc Cert.PropIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Prop [hProp : Cert.Prop.Facts] : Prop :=
  ∀ (m : (ℓ : Loc Cert.Prop.nD Cert.Prop.τ Cert.Prop.sig) → Buf (Elt Bits) ℓ) (g : Dev Cert.Prop.nD → PrngReg), Pre_Prop m →
    θ_run (Cert.Prop.defs (F := Bits)) (onTc (τ := Cert.Prop.τ) (Cert.Prop.main (F := Bits))) ⟨m, fun _ => 0, g⟩ (fun r => (∀ c : Dev Cert.Prop.nD,
      r.2.mem ((c.tc : Thread Cert.Prop.nD Cert.Prop.τ).loc Cert.Prop.main_arg0) = m ((c.tc : Thread Cert.Prop.nD Cert.Prop.τ).loc Cert.Prop.main_arg0)
      ∧ r.2.mem ((c.tc : Thread Cert.Prop.nD Cert.Prop.τ).loc Cert.Prop.main_arg1) = m ((c.tc : Thread Cert.Prop.nD Cert.Prop.τ).loc Cert.Prop.main_arg1)
      ∧ r.2.mem ((c.tc : Thread Cert.Prop.nD Cert.Prop.τ).loc Cert.Prop.main_arg2) = m ((c.tc : Thread Cert.Prop.nD Cert.Prop.τ).loc Cert.Prop.main_arg2)
      ∧ r.2.mem ((c.tc : Thread Cert.Prop.nD Cert.Prop.τ).loc Cert.Prop.main_arg3) = m ((c.tc : Thread Cert.Prop.nD Cert.Prop.τ).loc Cert.Prop.main_arg3)
      ∧ r.2.mem ((c.tc : Thread Cert.Prop.nD Cert.Prop.τ).loc Cert.Prop.main_arg4) = m ((c.tc : Thread Cert.Prop.nD Cert.Prop.τ).loc Cert.Prop.main_arg4))
      ∧ r.2.sem = fun _ => 0)

def quiescent_PropIdeal [hPropIdeal : Cert.PropIdeal.Facts] : Prop :=
  ∀ (m : (ℓ : Loc Cert.PropIdeal.nD Cert.PropIdeal.τ Cert.PropIdeal.sig) → Buf (Elt Ideal) ℓ) (g : Dev Cert.PropIdeal.nD → PrngReg), Pre_PropIdeal m →
    θ_run (Cert.PropIdeal.defs (F := Ideal)) (onTc (τ := Cert.PropIdeal.τ) (Cert.PropIdeal.main (F := Ideal))) ⟨m, fun _ => 0, g⟩ (fun r => (∀ c : Dev Cert.PropIdeal.nD,
      r.2.mem ((c.tc : Thread Cert.PropIdeal.nD Cert.PropIdeal.τ).loc Cert.PropIdeal.main_arg0) = m ((c.tc : Thread Cert.PropIdeal.nD Cert.PropIdeal.τ).loc Cert.PropIdeal.main_arg0)
      ∧ r.2.mem ((c.tc : Thread Cert.PropIdeal.nD Cert.PropIdeal.τ).loc Cert.PropIdeal.main_arg1) = m ((c.tc : Thread Cert.PropIdeal.nD Cert.PropIdeal.τ).loc Cert.PropIdeal.main_arg1)
      ∧ r.2.mem ((c.tc : Thread Cert.PropIdeal.nD Cert.PropIdeal.τ).loc Cert.PropIdeal.main_arg2) = m ((c.tc : Thread Cert.PropIdeal.nD Cert.PropIdeal.τ).loc Cert.PropIdeal.main_arg2)
      ∧ r.2.mem ((c.tc : Thread Cert.PropIdeal.nD Cert.PropIdeal.τ).loc Cert.PropIdeal.main_arg3) = m ((c.tc : Thread Cert.PropIdeal.nD Cert.PropIdeal.τ).loc Cert.PropIdeal.main_arg3)
      ∧ r.2.mem ((c.tc : Thread Cert.PropIdeal.nD Cert.PropIdeal.τ).loc Cert.PropIdeal.main_arg4) = m ((c.tc : Thread Cert.PropIdeal.nD Cert.PropIdeal.τ).loc Cert.PropIdeal.main_arg4))
      ∧ r.2.sem = fun _ => 0)

def quiescent_PropIdeal_pre_finite [hPropIdeal : Cert.PropIdeal.Facts] [hPre_finite : Cert.Pre_finite.Facts] : Prop :=
  ∀ (m : (ℓ : Loc Cert.PropIdeal.nD Cert.PropIdeal.τ Cert.PropIdeal.sig) → Buf (Elt Ideal) ℓ) (g : Dev Cert.PropIdeal.nD → PrngReg), Pre_PropIdeal_finite m →
    θ_run (Cert.PropIdeal.defs (F := Ideal)) (onTc (τ := Cert.PropIdeal.τ) (Cert.PropIdeal.main (F := Ideal))) ⟨m, fun _ => 0, g⟩ (fun r => (∀ c : Dev Cert.PropIdeal.nD,
      r.2.mem ((c.tc : Thread Cert.PropIdeal.nD Cert.PropIdeal.τ).loc Cert.PropIdeal.main_arg0) = m ((c.tc : Thread Cert.PropIdeal.nD Cert.PropIdeal.τ).loc Cert.PropIdeal.main_arg0)
      ∧ r.2.mem ((c.tc : Thread Cert.PropIdeal.nD Cert.PropIdeal.τ).loc Cert.PropIdeal.main_arg1) = m ((c.tc : Thread Cert.PropIdeal.nD Cert.PropIdeal.τ).loc Cert.PropIdeal.main_arg1)
      ∧ r.2.mem ((c.tc : Thread Cert.PropIdeal.nD Cert.PropIdeal.τ).loc Cert.PropIdeal.main_arg2) = m ((c.tc : Thread Cert.PropIdeal.nD Cert.PropIdeal.τ).loc Cert.PropIdeal.main_arg2)
      ∧ r.2.mem ((c.tc : Thread Cert.PropIdeal.nD Cert.PropIdeal.τ).loc Cert.PropIdeal.main_arg3) = m ((c.tc : Thread Cert.PropIdeal.nD Cert.PropIdeal.τ).loc Cert.PropIdeal.main_arg3)
      ∧ r.2.mem ((c.tc : Thread Cert.PropIdeal.nD Cert.PropIdeal.τ).loc Cert.PropIdeal.main_arg4) = m ((c.tc : Thread Cert.PropIdeal.nD Cert.PropIdeal.τ).loc Cert.PropIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Prop_PropIdeal : Prop :=
  True

def algebraic_PropIdeal_ReferenceIdeal_pre_finite [hPropIdeal : Cert.PropIdeal.Facts] [hReferenceIdeal : Cert.ReferenceIdeal.Facts] [hPre_finite : Cert.Pre_finite.Facts] : Prop :=
  ∀ (m : (ℓ : Loc Cert.PropIdeal.nD Cert.PropIdeal.τ Cert.PropIdeal.sig) → Buf (Elt Ideal) ℓ) (g : Dev Cert.PropIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_PropIdeal_finite m →
    (∀ c : Dev Cert.PropIdeal.nD,
      m' ((c.tc : Thread Cert.ReferenceIdeal.nD Cert.ReferenceIdeal.τ).loc Cert.ReferenceIdeal.main_arg0) = m ((c.tc : Thread Cert.PropIdeal.nD Cert.PropIdeal.τ).loc Cert.PropIdeal.main_arg0)
      ∧ m' ((c.tc : Thread Cert.ReferenceIdeal.nD Cert.ReferenceIdeal.τ).loc Cert.ReferenceIdeal.main_arg1) = m ((c.tc : Thread Cert.PropIdeal.nD Cert.PropIdeal.τ).loc Cert.PropIdeal.main_arg1)
      ∧ m' ((c.tc : Thread Cert.ReferenceIdeal.nD Cert.ReferenceIdeal.τ).loc Cert.ReferenceIdeal.main_arg2) = m ((c.tc : Thread Cert.PropIdeal.nD Cert.PropIdeal.τ).loc Cert.PropIdeal.main_arg2)
      ∧ m' ((c.tc : Thread Cert.ReferenceIdeal.nD Cert.ReferenceIdeal.τ).loc Cert.ReferenceIdeal.main_arg3) = m ((c.tc : Thread Cert.PropIdeal.nD Cert.PropIdeal.τ).loc Cert.PropIdeal.main_arg3)
      ∧ m' ((c.tc : Thread Cert.ReferenceIdeal.nD Cert.ReferenceIdeal.τ).loc Cert.ReferenceIdeal.main_arg4) = m ((c.tc : Thread Cert.PropIdeal.nD Cert.PropIdeal.τ).loc Cert.PropIdeal.main_arg4)) →
    ∃ (v0 : (c : Dev Cert.PropIdeal.nD) → Buf (Elt Ideal) ((c.tc : Thread Cert.PropIdeal.nD Cert.PropIdeal.τ).loc Cert.PropIdeal.main_v1_0)) (v1 : (c : Dev Cert.PropIdeal.nD) → Buf (Elt Ideal) ((c.tc : Thread Cert.PropIdeal.nD Cert.PropIdeal.τ).loc Cert.PropIdeal.main_v1_1)),
      θ_run (Cert.PropIdeal.defs (F := Ideal)) (onTc (τ := Cert.PropIdeal.τ) (Cert.PropIdeal.main (F := Ideal))) ⟨m, fun _ => 0, g⟩ (fun r => ∀ c : Dev Cert.PropIdeal.nD,
          r.2.mem ((c.tc : Thread Cert.PropIdeal.nD Cert.PropIdeal.τ).loc Cert.PropIdeal.main_v1_0) = v0 c
          ∧ r.2.mem ((c.tc : Thread Cert.PropIdeal.nD Cert.PropIdeal.τ).loc Cert.PropIdeal.main_v1_1) = v1 c
          ∧ r.2.mem ((c.tc : Thread Cert.PropIdeal.nD Cert.PropIdeal.τ).loc Cert.PropIdeal.main_arg0) = m ((c.tc : Thread Cert.PropIdeal.nD Cert.PropIdeal.τ).loc Cert.PropIdeal.main_arg0)
          ∧ r.2.mem ((c.tc : Thread Cert.PropIdeal.nD Cert.PropIdeal.τ).loc Cert.PropIdeal.main_arg1) = m ((c.tc : Thread Cert.PropIdeal.nD Cert.PropIdeal.τ).loc Cert.PropIdeal.main_arg1)
          ∧ r.2.mem ((c.tc : Thread Cert.PropIdeal.nD Cert.PropIdeal.τ).loc Cert.PropIdeal.main_arg2) = m ((c.tc : Thread Cert.PropIdeal.nD Cert.PropIdeal.τ).loc Cert.PropIdeal.main_arg2)
          ∧ r.2.mem ((c.tc : Thread Cert.PropIdeal.nD Cert.PropIdeal.τ).loc Cert.PropIdeal.main_arg3) = m ((c.tc : Thread Cert.PropIdeal.nD Cert.PropIdeal.τ).loc Cert.PropIdeal.main_arg3)
          ∧ r.2.mem ((c.tc : Thread Cert.PropIdeal.nD Cert.PropIdeal.τ).loc Cert.PropIdeal.main_arg4) = m ((c.tc : Thread Cert.PropIdeal.nD Cert.PropIdeal.τ).loc Cert.PropIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hProp : Cert.Prop.Facts) (hPropIdeal : Cert.PropIdeal.Facts) (hReferenceIdeal : Cert.ReferenceIdeal.Facts) (hPre_finite : Cert.Pre_finite.Facts),
    quiescent_Prop (hProp := hProp)
    ∧ quiescent_PropIdeal (hPropIdeal := hPropIdeal)
    ∧ quiescent_PropIdeal_pre_finite (hPropIdeal := hPropIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Prop_PropIdeal
    ∧ algebraic_PropIdeal_ReferenceIdeal_pre_finite (hPropIdeal := hPropIdeal) (hReferenceIdeal := hReferenceIdeal) (hPre_finite := hPre_finite)
-- ==== Pre_finite.lean ====
abbrev S3x384x4096 : Shape := ⟨3, ![3, 384, 4096]⟩
abbrev S3x384x1024 : Shape := ⟨3, ![3, 384, 1024]⟩
abbrev S3x32x256x4 : Shape := ⟨4, ![3, 32, 256, 4]⟩
abbrev S4096x4096 : Shape := ⟨2, ![4096, 4096]⟩
abbrev S16x256x256 : Shape := ⟨3, ![16, 256, 256]⟩
abbrev S_ : Shape := ⟨0, ![]⟩

class Facts : Prop where
  bcast_S_S3x384x4096 : S_.BroadcastsInDim S3x384x4096 (![] : Fin 0 → Fin S3x384x4096.rank)
  reducesTo_S3x384x4096_S_d0_1_2 : S3x384x4096.ReducesTo [0, 1, 2] S_
  h_S_ : 0 < S_.numel
  bcast_S_S3x32x256x4 : S_.BroadcastsInDim S3x32x256x4 (![] : Fin 0 → Fin S3x32x256x4.rank)
  reducesTo_S3x32x256x4_S_d0_1_2_3 : S3x32x256x4.ReducesTo [0, 1, 2, 3] S_
  bcast_S_S4096x4096 : S_.BroadcastsInDim S4096x4096 (![] : Fin 0 → Fin S4096x4096.rank)
  reducesTo_S4096x4096_S_d0_1 : S4096x4096.ReducesTo [0, 1] S_
  bcast_S_S16x256x256 : S_.BroadcastsInDim S16x256x256 (![] : Fin 0 → Fin S16x256x256.rank)
  reducesTo_S16x256x256_S_d0_1_2 : S16x256x256.ReducesTo [0, 1, 2] S_

variable [Facts]

def fn_part1 {F : FTy → Type} [FloatOps F] (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  main_v18

def fn {F : FTy → Type} [FloatOps F] (main_arg0 : FVec F S3x384x4096 .bf16) (main_arg1 : IVec S3x384x1024 8) (main_arg2 : FVec F S3x32x256x4 .bf16) (main_arg3 : FVec F S4096x4096 .f32) (main_arg4 : FVec F S16x256x256 .f32) : IVec S_ 1 :=
  let main_v0 : FVec F S3x384x4096 .bf16 := Host.absf main_arg0
  let main_cst : FVec F S_ .bf16 := constant S_ .bf16 0x7F80#16
  let main_v1 : FVec F S3x384x4096 .bf16 := broadcastInDim S3x384x4096 ![] bcast_S_S3x384x4096 main_cst
  let main_v2 : IVec S3x384x4096 1 := cmpf .olt main_v0 main_v1
  let main_c : IVec S_ 1 := constantI S_ 1 1#1
  let main_v3 : IVec S_ 1 := (fun x v => Host.reduce IntOp.andi x v reducesTo_S3x384x4096_S_d0_1_2 h_S_) main_v2 main_c
  let main_v4 : FVec F S3x32x256x4 .bf16 := Host.absf main_arg2
  let main_cst_0 : FVec F S_ .bf16 := constant S_ .bf16 0x7F80#16
  let main_v5 : FVec F S3x32x256x4 .bf16 := broadcastInDim S3x32x256x4 ![] bcast_S_S3x32x256x4 main_cst_0
  let main_v6 : IVec S3x32x256x4 1 := cmpf .olt main_v4 main_v5
  let main_c_1 : IVec S_ 1 := constantI S_ 1 1#1
  let main_v7 : IVec S_ 1 := (fun x v => Host.reduce IntOp.andi x v reducesTo_S3x32x256x4_S_d0_1_2_3 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S16x256x256 .f32 := Host.absf main_arg4
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_v13 main_v16
-- ==== Prop.lean ====
abbrev S3x384x4096 : Shape := ⟨3, ![3, 384, 4096]⟩
abbrev S3x384x1024 : Shape := ⟨3, ![3, 384, 1024]⟩
abbrev S3x32x256x4 : Shape := ⟨4, ![3, 32, 256, 4]⟩
abbrev S4096x4096 : Shape := ⟨2, ![4096, 4096]⟩
abbrev S16x256x256 : Shape := ⟨3, ![16, 256, 256]⟩
abbrev S3x32x4x256 : Shape := ⟨4, ![3, 32, 4, 256]⟩
abbrev S3x384x256 : Shape := ⟨3, ![3, 384, 256]⟩
abbrev S3x384x128 : Shape := ⟨3, ![3, 384, 128]⟩
abbrev S3x2x4x256 : Shape := ⟨4, ![3, 2, 4, 256]⟩
abbrev S4096x256 : Shape := ⟨2, ![4096, 256]⟩
abbrev S1x256x256 : Shape := ⟨3, ![1, 256, 256]⟩
abbrev S16x1152x256 : Shape := ⟨3, ![16, 1152, 256]⟩
abbrev S1152x256 : Shape := ⟨2, ![1152, 256]⟩
abbrev S1x384x128 : Shape := ⟨3, ![1, 384, 128]⟩
abbrev S384x128 : Shape := ⟨2, ![384, 128]⟩
abbrev S384x128x1 : Shape := ⟨3, ![384, 128, 1]⟩
abbrev S1x1x4x256 : Shape := ⟨4, ![1, 1, 4, 256]⟩
abbrev S4x256 : Shape := ⟨2, ![4, 256]⟩
abbrev S1x128 : Shape := ⟨2, ![1, 128]⟩
abbrev S256x256 : Shape := ⟨2, ![256, 256]⟩
abbrev S1x1152x256 : Shape := ⟨3, ![1, 1152, 256]⟩
abbrev S384x256 : Shape := ⟨2, ![384, 256]⟩
abbrev S1x384x256 : Shape := ⟨3, ![1, 384, 256]⟩

abbrev nBuf : Space → Nat
  | .hbm => 8
  | .vmem => 21
  | .smem => 0
  | _ => 0

abbrev bufTy : (tb : Table) → Fin (tcTables nBuf tb) → BufTy
  | .hbm, ⟨0, _⟩ => ⟨S3x384x4096, .bf16⟩
  | .hbm, ⟨1, _⟩ => ⟨S3x384x1024, .i8⟩
  | .hbm, ⟨2, _⟩ => ⟨S3x32x256x4, .bf16⟩
  | .hbm, ⟨3, _⟩ => ⟨S4096x4096, .f32⟩
  | .hbm, ⟨4, _⟩ => ⟨S16x256x256, .f32⟩
  | .hbm, ⟨5, _⟩ => ⟨S3x32x4x256, .bf16⟩
  | .hbm, ⟨6, _⟩ => ⟨S3x384x4096, .bf16⟩
  | .hbm, ⟨7, _⟩ => ⟨S3x384x4096, .f32⟩
  | .local _ .vmem, ⟨0, _⟩ => ⟨S3x384x256, .bf16⟩
  | .local _ .vmem, ⟨1, _⟩ => ⟨S3x384x256, .bf16⟩
  | .local _ .vmem, ⟨2, _⟩ => ⟨S3x384x128, .i8⟩
  | .local _ .vmem, ⟨3, _⟩ => ⟨S3x384x128, .i8⟩
  | .local _ .vmem, ⟨4, _⟩ => ⟨S3x2x4x256, .bf16⟩
  | .local _ .vmem, ⟨5, _⟩ => ⟨S3x2x4x256, .bf16⟩
  | .local _ .vmem, ⟨6, _⟩ => ⟨S4096x256, .f32⟩
  | .local _ .vmem, ⟨7, _⟩ => ⟨S4096x256, .f32⟩
  | .local _ .vmem, ⟨8, _⟩ => ⟨S1x256x256, .f32⟩
  | .local _ .vmem, ⟨9, _⟩ => ⟨S1x256x256, .f32⟩
  | .local _ .vmem, ⟨10, _⟩ => ⟨S3x384x256, .bf16⟩
  | .local _ .vmem, ⟨11, _⟩ => ⟨S3x384x256, .bf16⟩
  | .local _ .vmem, ⟨12, _⟩ => ⟨S3x384x256, .f32⟩
  | .local _ .vmem, ⟨13, _⟩ => ⟨S3x384x256, .f32⟩
  | .local _ .vmem, ⟨14, _⟩ => ⟨S16x1152x256, .bf16⟩
  | .local _ .vmem, ⟨15, _⟩ => ⟨S16x1152x256, .bf16⟩
  | .local _ .vmem, ⟨16, _⟩ => ⟨S16x1152x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S1152x256, .f32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

@[reducible] def k0_t1_loop (i : grid0.Coords) : Scf.Loop 32 :=
  let c0_i32_318 : BitVec 32 := 0#32
  let arg0 : BitVec 32 := BitVec.ofNat 32 (i 0).val
  let v1093 : BitVec 32 := Scalar.subi arg0 c0_i32_318
  let c1_i32_320 : BitVec 32 := 1#32
  let v1095 : BitVec 32 := Scalar.divsi v1093 c1_i32_320
  let v1096 : BitVec 32 := Scalar.muli v1095 c1_i32_320
  let v1097 : BitVec 32 := Scalar.addi c0_i32_318 v1096
  let c1_i32_321 : BitVec 32 := 1#32
  ⟨c0_i32_318, v1097, c1_i32_321⟩
def k0_mult1 (i : grid0.Coords) (k0_t1 : Fin (k0_t1_loop i).trips) : BitVec 32 :=
  let c0_i32_318 : BitVec 32 := 0#32
  let c1_i32_321 : BitVec 32 := 1#32
  let arg15 : BitVec 32 := Scf.iv c0_i32_318 c1_i32_321 k0_t1
  let c256_i32 : BitVec 32 := 256#32
  let v1166 : BitVec 32 := Scalar.muli arg15 c256_i32
  v1166
def k0_off1 (i : grid0.Coords) (k0_t1 : Fin (k0_t1_loop i).trips) : Fin 2 → Nat :=
  let c0_i32_318 : BitVec 32 := 0#32
  let c1_i32_321 : BitVec 32 := 1#32
  let arg15 : BitVec 32 := Scf.iv c0_i32_318 c1_i32_321 k0_t1
  let c256_i32 : BitVec 32 := 256#32
  let v1166 : BitVec 32 := Scalar.muli arg15 c256_i32
  let v1167 : BitVec 32 := v1166
  let v1168 : Index := Scalar.indexCast v1167
  let c0_353 : Index := 0#32
  ![v1168.toNat, 0]
@[reducible] def k0_t2_loop (i : grid0.Coords) : Scf.Loop 32 :=
  let c0_i32_318 : BitVec 32 := 0#32
  let arg0 : BitVec 32 := BitVec.ofNat 32 (i 0).val
  let v1093 : BitVec 32 := Scalar.subi arg0 c0_i32_318
  let c1_i32_320 : BitVec 32 := 1#32
  let v1095 : BitVec 32 := Scalar.divsi v1093 c1_i32_320
  let v1096 : BitVec 32 := Scalar.muli v1095 c1_i32_320
  let v1097 : BitVec 32 := Scalar.addi c0_i32_318 v1096
  let v1094 : BitVec 32 := Scalar.addi c0_i32_318 v1093
  let c1_i32_322 : BitVec 32 := 1#32
  ⟨v1097, v1094, c1_i32_322⟩
def k0_mult2 (i : grid0.Coords) (k0_t2 : Fin (k0_t2_loop i).trips) : BitVec 32 :=
  let c0_i32_318 : BitVec 32 := 0#32
  let arg0 : BitVec 32 := BitVec.ofNat 32 (i 0).val
  let v1093 : BitVec 32 := Scalar.subi arg0 c0_i32_318
  let c1_i32_320 : BitVec 32 := 1#32
  let v1095 : BitVec 32 := Scalar.divsi v1093 c1_i32_320
  let v1096 : BitVec 32 := Scalar.muli v1095 c1_i32_320
  let v1097 : BitVec 32 := Scalar.addi c0_i32_318 v1096
  let c1_i32_322 : BitVec 32 := 1#32
  let arg15 : BitVec 32 := Scf.iv v1097 c1_i32_322 k0_t2
  let c256_i32 : BitVec 32 := 256#32
  let v1166 : BitVec 32 := Scalar.muli arg15 c256_i32
  v1166
def k0_off2 (i : grid0.Coords) (k0_t2 : Fin (k0_t2_loop i).trips) : Fin 2 → Nat :=
  let c0_i32_318 : BitVec 32 := 0#32
  let arg0 : BitVec 32 := BitVec.ofNat 32 (i 0).val
  let v1093 : BitVec 32 := Scalar.subi arg0 c0_i32_318
  let c1_i32_320 : BitVec 32 := 1#32
  let v1095 : BitVec 32 := Scalar.divsi v1093 c1_i32_320
  let v1096 : BitVec 32 := Scalar.muli v1095 c1_i32_320
  let v1097 : BitVec 32 := Scalar.addi c0_i32_318 v1096
  let c1_i32_322 : BitVec 32 := 1#32
  let arg15 : BitVec 32 := Scf.iv v1097 c1_i32_322 k0_t2
  let c256_i32 : BitVec 32 := 256#32
  let v1166 : BitVec 32 := Scalar.muli arg15 c256_i32
  let v1167 : BitVec 32 := v1166
  let v1168 : Index := Scalar.indexCast v1167
  let c0_353 : Index := 0#32
  ![v1168.toNat, 0]
@[reducible] def k0_t3_loop (i : grid0.Coords) : Scf.Loop 32 :=
  let c0_i32_323 : BitVec 32 := 0#32
  let arg0 : BitVec 32 := BitVec.ofNat 32 (i 0).val
  let v1100 : BitVec 32 := Scalar.subi arg0 c0_i32_323
  let c1_i32_325 : BitVec 32 := 1#32
  let v1102 : BitVec 32 := Scalar.divsi v1100 c1_i32_325
  let v1103 : BitVec 32 := Scalar.muli v1102 c1_i32_325
  let v1104 : BitVec 32 := Scalar.addi c0_i32_323 v1103
  let c1_i32_326 : BitVec 32 := 1#32
  ⟨c0_i32_323, v1104, c1_i32_326⟩
def k0_mult3 (i : grid0.Coords) (k0_t3 : Fin (k0_t3_loop i).trips) : BitVec 32 :=
  let c0_i32_323 : BitVec 32 := 0#32
  let c1_i32_326 : BitVec 32 := 1#32
  let arg15 : BitVec 32 := Scf.iv c0_i32_323 c1_i32_326 k0_t3
  let c256_i32 : BitVec 32 := 256#32
  let v1166 : BitVec 32 := Scalar.muli arg15 c256_i32
  v1166
def k0_off3 (i : grid0.Coords) (k0_t3 : Fin (k0_t3_loop i).trips) : Fin 3 → Nat :=
  let c0_i32_323 : BitVec 32 := 0#32
  let c1_i32_326 : BitVec 32 := 1#32
  let arg15 : BitVec 32 := Scf.iv c0_i32_323 c1_i32_326 k0_t3
  let v1169 : Index := Scalar.indexCast arg15
  let c0_355 : Index := 0#32
  let c0_356 : Index := 0#32
  ![v1169.toNat, 0, 0]
def k0_off4 (i : grid0.Coords) (k0_t3 : Fin (k0_t3_loop i).trips) : Fin 2 → Nat :=
  let c0_i32_323 : BitVec 32 := 0#32
  let c1_i32_326 : BitVec 32 := 1#32
  let arg15 : BitVec 32 := Scf.iv c0_i32_323 c1_i32_326 k0_t3
  let c256_i32 : BitVec 32 := 256#32
  let v1166 : BitVec 32 := Scalar.muli arg15 c256_i32
  let v1167 : BitVec 32 := v1166
  let v1178 : Index := Scalar.indexCast v1167
  let c0_361 : Index := 0#32
  ![v1178.toNat, 0]
@[reducible] def k0_t4_loop (i : grid0.Coords) : Scf.Loop 32 :=
  let c0_i32_323 : BitVec 32 := 0#32
  let arg0 : BitVec 32 := BitVec.ofNat 32 (i 0).val
  let v1100 : BitVec 32 := Scalar.subi arg0 c0_i32_323
  let c1_i32_325 : BitVec 32 := 1#32
  let v1102 : BitVec 32 := Scalar.divsi v1100 c1_i32_325
  let v1103 : BitVec 32 := Scalar.muli v1102 c1_i32_325
  let v1104 : BitVec 32 := Scalar.addi c0_i32_323 v1103
  let v1101 : BitVec 32 := Scalar.addi c0_i32_323 v1100
  let c1_i32_327 : BitVec 32 := 1#32
  ⟨v1104, v1101, c1_i32_327⟩
def k0_mult4 (i : grid0.Coords) (k0_t4 : Fin (k0_t4_loop i).trips) : BitVec 32 :=
  let c0_i32_323 : BitVec 32 := 0#32
  let arg0 : BitVec 32 := BitVec.ofNat 32 (i 0).val
  let v1100 : BitVec 32 := Scalar.subi arg0 c0_i32_323
  let c1_i32_325 : BitVec 32 := 1#32
  let v1102 : BitVec 32 := Scalar.divsi v1100 c1_i32_325
  let v1103 : BitVec 32 := Scalar.muli v1102 c1_i32_325
  let v1104 : BitVec 32 := Scalar.addi c0_i32_323 v1103
  let c1_i32_327 : BitVec 32 := 1#32
  let arg15 : BitVec 32 := Scf.iv v1104 c1_i32_327 k0_t4
  let c256_i32 : BitVec 32 := 256#32
  let v1166 : BitVec 32 := Scalar.muli arg15 c256_i32
  v1166
def k0_off5 (i : grid0.Coords) (k0_t4 : Fin (k0_t4_loop i).trips) : Fin 3 → Nat :=
  let c0_i32_323 : BitVec 32 := 0#32
  let arg0 : BitVec 32 := BitVec.ofNat 32 (i 0).val
  let v1100 : BitVec 32 := Scalar.subi arg0 c0_i32_323
  let c1_i32_325 : BitVec 32 := 1#32
  let v1102 : BitVec 32 := Scalar.divsi v1100 c1_i32_325
  let v1103 : BitVec 32 := Scalar.muli v1102 c1_i32_325
  let v1104 : BitVec 32 := Scalar.addi c0_i32_323 v1103
  let c1_i32_327 : BitVec 32 := 1#32
  let arg15 : BitVec 32 := Scf.iv v1104 c1_i32_327 k0_t4
  let v1169 : Index := Scalar.indexCast arg15
  let c0_355 : Index := 0#32
  let c0_356 : Index := 0#32
  ![v1169.toNat, 0, 0]
def k0_off6 (i : grid0.Coords) (k0_t4 : Fin (k0_t4_loop i).trips) : Fin 2 → Nat :=
  let c0_i32_323 : BitVec 32 := 0#32
  let arg0 : BitVec 32 := BitVec.ofNat 32 (i 0).val
  let v1100 : BitVec 32 := Scalar.subi arg0 c0_i32_323
  let c1_i32_325 : BitVec 32 := 1#32
  let v1102 : BitVec 32 := Scalar.divsi v1100 c1_i32_325
  let v1103 : BitVec 32 := Scalar.muli v1102 c1_i32_325
  let v1104 : BitVec 32 := Scalar.addi c0_i32_323 v1103
  let c1_i32_327 : BitVec 32 := 1#32
  let arg15 : BitVec 32 := Scf.iv v1104 c1_i32_327 k0_t4
  let c256_i32 : BitVec 32 := 256#32
  let v1166 : BitVec 32 := Scalar.muli arg15 c256_i32
  let v1167 : BitVec 32 := v1166
  let v1178 : Index := Scalar.indexCast v1167
  let c0_361 : Index := 0#32
  ![v1178.toNat, 0]
def k0_off7 (i : grid0.Coords) : Fin 3 → Nat :=
  let arg0 : BitVec 32 := BitVec.ofNat 32 (i 0).val
  let v1142 : Index := Scalar.indexCast arg0
  let c0_338 : Index := 0#32
  let c0_339 : Index := 0#32
  ![v1142.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, c0_i32_5.toNat, v16.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x384x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x2x4x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x384x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x384x4096 : Shape := ⟨3, ![3, 384, 4096]⟩
abbrev S3x384x1024 : Shape := ⟨3, ![3, 384, 1024]⟩
abbrev S3x32x256x4 : Shape := ⟨4, ![3, 32, 256, 4]⟩
abbrev S4096x4096 : Shape := ⟨2, ![4096, 4096]⟩
abbrev S16x256x256 : Shape := ⟨3, ![16, 256, 256]⟩
abbrev S3 : Shape := ⟨1, ![3]⟩
abbrev S3x1x1 : Shape := ⟨3, ![3, 1, 1]⟩
abbrev S1024 : Shape := ⟨1, ![1024]⟩
abbrev S_ : Shape := ⟨0, ![]⟩
abbrev S1x1x1024 : Shape := ⟨3, ![1, 1, 1024]⟩
abbrev S3x384x1024x1 : Shape := ⟨4, ![3, 384, 1024, 1]⟩
abbrev S3x384x1024x3 : Shape := ⟨4, ![3, 384, 1024, 3]⟩
abbrev S3x384x1024x4 : Shape := ⟨4, ![3, 384, 1024, 4]⟩
abbrev S1152x4096 : Shape := ⟨2, ![1152, 4096]⟩
abbrev S4096 : Shape := ⟨1, ![4096]⟩
abbrev S16 : Shape := ⟨1, ![16]⟩
abbrev S1 : Shape := ⟨1, ![1]⟩
abbrev S4096x256 : Shape := ⟨2, ![4096, 256]⟩
abbrev S4096x1 : Shape := ⟨2, ![4096, 1]⟩
abbrev S1152x256 : Shape := ⟨2, ![1152, 256]⟩
abbrev S1x256x256 : Shape := ⟨3, ![1, 256, 256]⟩
abbrev S256x256 : Shape := ⟨2, ![256, 256]⟩

abbrev nBuf : Space → Nat
  | .hbm => 140
  | .vmem => 0
  | .smem => 0
  | _ => 0

abbrev hbmTy0_0 (i : Nat) : BufTy := match i % 128 with
  | 0 => ⟨S3x384x4096, .bf16⟩
  | 1 => ⟨S3x384x1024, .i8⟩
  | 2 => ⟨S3x32x256x4, .bf16⟩
  | 3 => ⟨S4096x4096, .f32⟩
  | 4 => ⟨S16x256x256, .f32⟩
  | 5 => ⟨S3, .i32⟩
  | 6 => ⟨S3x1x1, .i32⟩
  | 7 => ⟨S1024, .i32⟩
  | 8 => ⟨S_, .i32⟩
  | 9 => ⟨S1024, .i32⟩
  | 10 => ⟨S1024, .i32⟩
  | 11 => ⟨S_, .i32⟩
  | 12 => ⟨S_, .i32⟩
  | 13 => ⟨S1024, .i32⟩
  | 14 => ⟨S1024, .i32⟩
  | 15 => ⟨S1024, .i32⟩
  | 16 => ⟨S_, .i32⟩
  | 17 => ⟨S1024, .i32⟩
  | 18 => ⟨S1024, .i1⟩
  | 19 => ⟨S1024, .i32⟩
  | 20 => ⟨S1024, .i32⟩
  | 21 => ⟨S_, .i32⟩
  | 22 => ⟨S1024, .i32⟩
  | 23 => ⟨S1024, .i1⟩
  | 24 => ⟨S1024, .i1⟩
  | 25 => ⟨S_, .i32⟩
  | 26 => ⟨S1024, .i32⟩
  | 27 => ⟨S1024, .i32⟩
  | 28 => ⟨S1024, .i32⟩
  | 29 => ⟨S1x1x1024, .i32⟩
  | 30 => ⟨S3x384x1024, .i32⟩
  | 31 => ⟨S_, .i32⟩
  | 32 => ⟨S3x1x1, .i32⟩
  | 33 => ⟨S3x1x1, .i1⟩
  | 34 => ⟨S_, .i32⟩
  | 35 => ⟨S3x1x1, .i32⟩
  | 36 => ⟨S3x1x1, .i32⟩
  | 37 => ⟨S3x1x1, .i32⟩
  | 38 => ⟨S_, .i32⟩
  | 39 => ⟨S1x1x1024, .i32⟩
  | 40 => ⟨S1x1x1024, .i1⟩
  | 41 => ⟨S_, .i32⟩
  | 42 => ⟨S1x1x1024, .i32⟩
  | 43 => ⟨S1x1x1024, .i32⟩
  | 44 => ⟨S1x1x1024, .i32⟩
  | 45 => ⟨S_, .i32⟩
  | 46 => ⟨S3x384x1024, .i32⟩
  | 47 => ⟨S3x384x1024, .i1⟩
  | 48 => ⟨S_, .i32⟩
  | 49 => ⟨S3x384x1024, .i32⟩
  | 50 => ⟨S3x384x1024, .i32⟩
  | 51 => ⟨S3x384x1024, .i32⟩
  | 52 => ⟨S3x384x1024, .i32⟩
  | 53 => ⟨S3x384x1024, .i32⟩
  | 54 => ⟨S3x384x1024x1, .i32⟩
  | 55 => ⟨S3x384x1024x1, .i32⟩
  | 56 => ⟨S3x384x1024x1, .i32⟩
  | 57 => ⟨S3x384x1024x3, .i32⟩
  | 58 => ⟨S3x384x1024x4, .bf16⟩
  | 59 => ⟨S3x384x4096, .bf16⟩
  | 60 => ⟨S3x384x4096, .f32⟩
  | 61 => ⟨S3x384x4096, .f32⟩
  | 62 => ⟨S3x384x4096, .f32⟩
  | 63 => ⟨S1152x4096, .f32⟩
  | 64 => ⟨S4096, .i32⟩
  | 65 => ⟨S_, .f32⟩
  | 66 => ⟨S1152x4096, .f32⟩
  | 67 => ⟨S16, .i32⟩
  | 68 => ⟨S_, .i32⟩
  | 69 => ⟨S16, .i32⟩
  | 70 => ⟨S4096x4096, .f32⟩
  | 71 => ⟨S4096, .i32⟩
  | 72 => ⟨S1152x4096, .f32⟩
  | 73 => ⟨S16x256x256, .f32⟩
  | 74 => ⟨S_, .i32⟩
  | 75 => ⟨S1152x4096, .f32⟩
  | 76 => ⟨S_, .i32⟩
  | 77 => ⟨S_, .i1⟩
  | 78 => ⟨S1, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S4096x256, .f32⟩
  | 89 => ⟨S4096x1, .i32⟩
  | 90 => ⟨S4096x1, .i32⟩
  | 91 => ⟨S4096x1, .i1⟩
  | 92 => ⟨S_, .f32⟩
  | 93 => ⟨S_, .f32⟩
  | 94 => ⟨S4096x256, .i1⟩
  | 95 => ⟨S4096x256, .f32⟩
  | 96 => ⟨S4096x256, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1152x256, .f32⟩
  | 104 => ⟨S1152x256, .f32⟩
  | 105 => ⟨S1152x256, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x256x256, .f32⟩
  | _ => ⟨S3x384x4096, .bf16⟩

abbrev hbmTy0_1 (i : Nat) : BufTy := match i % 128 with
  | 0 => ⟨S256x256, .f32⟩
  | 1 => ⟨S1152x256, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S1152x4096, .f32⟩
  | 9 => ⟨S_, .i32⟩
  | 10 => ⟨S_, .i32⟩
  | 11 => ⟨S3x384x4096, .f32⟩
  | _ => ⟨S3x384x4096, .bf16⟩

abbrev hbmTy (i : Nat) : BufTy := match i / 128 with
  | 0 => hbmTy0_0 i
  | 1 => hbmTy0_1 i
  | _ => ⟨S3x384x4096, .bf16⟩

abbrev bufTy : (tb : Table) → Fin (tcTables nBuf tb) → BufTy
  | .hbm, ⟨i, _⟩ => hbmTy i
  | _, _ => ⟨S3x384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_5 : Ref sig .tc := ⟨.hbm, 45, rfl⟩
abbrev main_v18 : Ref sig .tc := ⟨.hbm, 46, rfl⟩
abbrev main_v19 : Ref sig .tc := ⟨.hbm, 47, rfl⟩
abbrev main_c_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_v38_3 : Ref sig .tc := ⟨.hbm, 72, rfl⟩
abbrev main_v38_4 : Ref sig .tc := ⟨.hbm, 73, rfl⟩
abbrev main_v38_5 : Ref sig .tc := ⟨.hbm, 74, rfl⟩
abbrev main_v38_6 : Ref sig .tc := ⟨.hbm, 75, rfl⟩
abbrev main_while0c_c_14 : Ref sig .tc := ⟨.hbm, 76, rfl⟩
abbrev main_while0c_v40 : Ref sig .tc := ⟨.hbm, 77, rfl⟩
abbrev main_while0b_call1_v0 : Ref sig .tc := ⟨.hbm, 78, rfl⟩
abbrev main_while0b_v40 : Ref sig .tc := ⟨.hbm, 79, rfl⟩
abbrev main_while0b_c_14 : Ref sig .tc := ⟨.hbm, 80, rfl⟩
abbrev main_while0b_v41 : Ref sig .tc := ⟨.hbm, 81, rfl⟩
abbrev main_while0b_c_15 : Ref sig .tc := ⟨.hbm, 82, rfl⟩
abbrev main_while0b_v42 : Ref sig .tc := ⟨.hbm, 83, rfl⟩
abbrev main_while0b_c_16 : Ref sig .tc := ⟨.hbm, 84, rfl⟩
abbrev main_while0b_v43 : Ref sig .tc := ⟨.hbm, 85, rfl⟩
abbrev main_while0b_v44 : Ref sig .tc := ⟨.hbm, 86, rfl⟩
abbrev main_while0b_c_17 : Ref sig .tc := ⟨.hbm, 87, rfl⟩
abbrev main_while0b_v45 : Ref sig .tc := ⟨.hbm, 88, rfl⟩
abbrev main_while0b_v46 : Ref sig .tc := ⟨.hbm, 89, rfl⟩
abbrev main_while0b_v47 : Ref sig .tc := ⟨.hbm, 90, rfl⟩
abbrev main_while0b_v48 : Ref sig .tc := ⟨.hbm, 91, rfl⟩
abbrev main_while0b_cst_18 : Ref sig .tc := ⟨.hbm, 92, rfl⟩
abbrev main_while0b_call2_v0 : Ref sig .tc := ⟨.hbm, 93, rfl⟩
abbrev main_while0b_call2_v1 : Ref sig .tc := ⟨.hbm, 94, rfl⟩
abbrev main_while0b_call2_v2 : Ref sig .tc := ⟨.hbm, 95, rfl⟩
abbrev main_while0b_v49 : Ref sig .tc := ⟨.hbm, 96, rfl⟩
abbrev main_while0b_c_19 : Ref sig .tc := ⟨.hbm, 97, rfl⟩
abbrev main_while0b_v50 : Ref sig .tc := ⟨.hbm, 98, rfl⟩
abbrev main_while0b_c_20 : Ref sig .tc := ⟨.hbm, 99, rfl⟩
abbrev main_while0b_v51 : Ref sig .tc := ⟨.hbm, 100, rfl⟩
abbrev main_while0b_v52 : Ref sig .tc := ⟨.hbm, 101, rfl⟩
abbrev main_while0b_c_21 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_c_22 : Ref sig .tc := ⟨.hbm, 106, rfl⟩
abbrev main_while0b_v56 : Ref sig .tc := ⟨.hbm, 107, rfl⟩
abbrev main_while0b_c_23 : Ref sig .tc := ⟨.hbm, 108, rfl⟩
abbrev main_while0b_v57 : Ref sig .tc := ⟨.hbm, 109, rfl⟩
abbrev main_while0b_v58 : Ref sig .tc := ⟨.hbm, 110, rfl⟩
abbrev main_while0b_c_24 : Ref sig .tc := ⟨.hbm, 111, rfl⟩
abbrev main_while0b_c_25 : Ref sig .tc := ⟨.hbm, 112, rfl⟩
abbrev main_while0b_v59 : Ref sig .tc := ⟨.hbm, 113, rfl⟩
abbrev main_while0b_c_26 : Ref sig .tc := ⟨.hbm, 114, rfl⟩
abbrev main_while0b_c_27 : Ref sig .tc := ⟨.hbm, 115, rfl⟩
abbrev main_while0b_v60 : Ref sig .tc := ⟨.hbm, 116, rfl⟩
abbrev main_while0b_c_28 : Ref sig .tc := ⟨.hbm, 117, rfl⟩
abbrev main_while0b_v61 : Ref sig .tc := ⟨.hbm, 118, rfl⟩
abbrev main_while0b_c_29 : Ref sig .tc := ⟨.hbm, 119, rfl⟩
abbrev main_while0b_c_30 : Ref sig .tc := ⟨.hbm, 120, rfl⟩
abbrev main_while0b_v62 : Ref sig .tc := ⟨.hbm, 121, rfl⟩
abbrev main_while0b_c_31 : Ref sig .tc := ⟨.hbm, 122, rfl⟩
abbrev main_while0b_c_32 : Ref sig .tc := ⟨.hbm, 123, rfl⟩
abbrev main_while0b_v63 : Ref sig .tc := ⟨.hbm, 124, rfl⟩
abbrev main_while0b_c_33 : Ref sig .tc := ⟨.hbm, 125, rfl⟩
abbrev main_while0b_v64 : Ref sig .tc := ⟨.hbm, 126, rfl⟩
abbrev main_while0b_v65 : Ref sig .tc := ⟨.hbm, 127, rfl⟩
abbrev main_while0b_v66 : Ref sig .tc := ⟨.hbm, 128, rfl⟩
abbrev main_while0b_v67 : Ref sig .tc := ⟨.hbm, 129, rfl⟩
abbrev main_while0b_c_34 : Ref sig .tc := ⟨.hbm, 130, rfl⟩
abbrev main_while0b_v68 : Ref sig .tc := ⟨.hbm, 131, rfl⟩
abbrev main_while0b_c_35 : Ref sig .tc := ⟨.hbm, 132, rfl⟩
abbrev main_while0b_v69 : Ref sig .tc := ⟨.hbm, 133, rfl⟩
abbrev main_while0b_v70 : Ref sig .tc := ⟨.hbm, 134, rfl⟩
abbrev main_while0b_c_36 : Ref sig .tc := ⟨.hbm, 135, rfl⟩
abbrev main_while0b_v71 : Ref sig .tc := ⟨.hbm, 136, rfl⟩
abbrev main_while0b_c_37 : Ref sig .tc := ⟨.hbm, 137, rfl⟩
abbrev main_while0b_v72 : Ref sig .tc := ⟨.hbm, 138, rfl⟩
abbrev main_v39 : Ref sig .tc := ⟨.hbm, 139, rfl⟩

abbrev nD : Nat := 1
abbrev τ : Topo := Topo.v7x

variable {F : FTy → Type} [FloatOps F]

abbrev main_while0_count : Scf.Loop 32 := ⟨0#32, 16#32, 1#32⟩
-- ==== Proof.PropBody.lean ====
/- Hand-written. The body of `propagate` run once at a symbolic grid point, at any float instance: from the
   five staged inputs, the two staged outputs and the seven scratch buffers at named contents, it ends with the inputs
   as they were and the outputs and the three error-limb buffers written with the pieces the run finds. -/
module

public import proofs.«01_k».proof.Proof.Gen.Prop.Frame
public import proofs.«01_k».proof.Proof.Gen.Prop.Loops
public import proofs.«01_k».proof.Proof.Gen.Prop.Skeleton

@[expose] public section

set_option maxRecDepth 16384

noncomputable section

namespace Cert.Prop.Hand

open Cert.Prop Cert.Prop.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- THE BODY RUN: the pieces written into the two results' blocks and the three error-limb buffers, found by the run. -/
def kernelRun (c : Dev nD) (i : grid0.Coords) (arg1 : Memref sig .tc .vmem S3x384x256 .bf16) (harg1 : arg1.IsWhole) (arg2 : Memref sig .tc .vmem S3x384x128 .i8) (harg2 : arg2.IsWhole) (arg3 : Memref sig .tc .vmem S3x2x4x256 .bf16) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S3x384x256 .bf16) (harg6 : arg6.IsWhole) (arg7 : Memref sig .tc .vmem S3x384x256 .f32) (harg7 : arg7.IsWhole) (arg8 : Memref sig .tc .vmem S16x1152x256 .bf16) (harg8 : arg8.IsWhole) (arg9 : Memref sig .tc .vmem S16x1152x256 .bf16) (harg9 : arg9.IsWhole) (arg10 : Memref sig .tc .vmem S16x1152x256 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x256 .f32) (harg14 : arg14.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L6 : List (View.Piece (Elt F) S3x384x256 .bf16)) (L7 : List (View.Piece (Elt F) S3x384x256 .f32)) (L8 : List (View.Piece (Elt F) S16x1152x256 .bf16)) (L9 : List (View.Piece (Elt F) S16x1152x256 .bf16)), { L10 : List (View.Piece (Elt F) S16x1152x256 .bf16) //
      ∀ (f6 : BufTy.Contents (Elt F) arg6.view.ty) (f7 : BufTy.Contents (Elt F) arg7.view.ty),
        (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
        ⊢ wp frame (wpE (defs₀ (F := F)) Variants.none (c : Thread nD τ) none) Set.univ (cc0_propagate (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) arg6.view.junk L6)) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)))) } := by
  refine ⟨?_, ?_, ?_, ?_, ?_, fun f6 f7 => ?run⟩
  case run =>
    rw [cc0_propagate_eq_skeleton]
    unfold cc0_propagate_skel
    iintro ⟨H1, H2, H3, H4, H5, H6, H7, H8, H9, H10, H11, H12, H13, H14⟩
    sl_exec
    sl_step
    sl_close

end Cert.Prop.Hand

end
-- ==== Proof.PropFrame.lean ====
/- Hand-written. The frame of `Prop`: the program terminates without a fault, its arguments end as they
   started and every semaphore counter ends at zero. The two results are forgotten here. -/
module

public import proofs.«01_k».proof.Proof.PropBody

@[expose] public section

set_option maxRecDepth 16384

noncomputable section

namespace Cert.Prop.Hand

open Cert.Prop Cert.Prop.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers at anything and the generator register, as separate conjuncts. -/
theorem PhiA_eq (c : Dev nD) : (Pipeline.ΦA (U := UR sig nD τ) (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]

/-- The results' windows, forgotten. -/
def fgt : Fin 7 → Bool := ![false, false, false, false, false, true, true]

/-- The proof data of the frame: each input's staging buffer holds its block, the results are unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Dat.unnamed (cfg := cfg0) (Val := Elt F) ⟨5, h⟩ t
    | ⟨6, h⟩ => Dat.unnamed (cfg := cfg0) (Val := Elt F) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after_in0 m c) t d
theorem after_in1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after_in1 m c) t d
theorem after_in2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after_in2 m c) t d
theorem after_in3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after_in3 m c) t d
theorem after_in4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after_in4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq]
  rw [show (dats m 0 c).owesAt () t.succ = (dats m 0 c).owesAt () t.castSucc from rfl]
  unfold owns
  iintro ⟨⟨⟨⟨%s0, %g0, %hg0, S0⟩, ⟨%s1, %g1, %hg1, S1⟩, ⟨%s2, %g2, %hg2, S2⟩, ⟨%s3, %g3, %hg3, S3⟩, ⟨%s4, %g4, %hg4, S4⟩, ⟨%s5, %g5, %hg5, S5⟩, ⟨%s6, %g6, %hg6, S6⟩⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  iapply (wp_wand_r Idealize.ShloMosaic.frame (wpE (defs₀ (F := F)) Variants.none (c : Thread nD τ) none) Set.univ)
  isplitl [H0 H1 H2 H3 H4 H5 H6 S0 S1 S2 S3 S4 S5 S6]
  · iapply ((kernelRun c (grid0.coords t) _ _ _ _ _ _ _ _ _ _ _ _ _ _ _ _ _ _ _ _ _ _ _ _ _ _ _ _ f0 f1 f2 f3 f4 g0 g1 g2 g3 g4 g5 g6).2.2.2.2.2 f5 f6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iexact S6
  · iintro %_ ⟨H0, H1, H2, H3, H4, H5, H6, S0, S1, S2, ⟨%e3, S3⟩, ⟨%e4, S4⟩, ⟨%e5, S5⟩, ⟨%e6, S6⟩⟩
    isplitl [Hg S0 S1 S2 S3 S4 S5 S6]
    · isplitr [Hg]; swap; · iexact Hg
      isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      isplitl [S4]
      · iexists _, _; isplitr; swap; · iexact S4
        ipureintro; rfl
      isplitl [S5]
      · iexists _, _; isplitr; swap; · iexact S5
        ipureintro; rfl
      iexists _, _; isplitr; swap; · iexact S6
      ipureintro; rfl
    isplitl [HW]; · iexact HW
    isplitl [H0]
    · iexists _; isplitr; swap; · iexact H0
      ipureintro; rw [after_in0, ← before0 m c t d0]; exact hf0
    isplitl [H1]
    · iexists _; isplitr; swap; · iexact H1
      ipureintro; rw [after_in1, ← before1 m c t d1]; exact hf1
    isplitl [H2]
    · iexists _; isplitr; swap; · iexact H2
      ipureintro; rw [after_in2, ← before2 m c t d2]; exact hf2
    isplitl [H3]
    · iexists _; isplitr; swap; · iexact H3
      ipureintro; rw [after_in3, ← before3 m c t d3]; exact hf3
    isplitl [H4]
    · iexists _; isplitr; swap; · iexact H4
      ipureintro; rw [after_in4, ← before4 m c t d4]; exact hf4
    isplitl [H5]
    · iexists _, _; isplitr; swap; · iexact H5
      ipureintro; rfl
    iexists _, _; isplitr; swap; · iexact H6
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c =>
     ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c))⟩, h.2⟩) (run_main m ρ)

end Cert.Prop.Hand

end
-- ==== Proof.PropIdealBody.lean ====
/- Hand-written. The body of `propagate` run once at a symbolic grid point, at any float instance: from the
   five staged inputs, the two staged outputs and the seven scratch buffers at named contents, it ends with the inputs
   as they were and the outputs and the three error-limb buffers written with the pieces the run finds. -/
module

public import proofs.«01_k».proof.Proof.Gen.PropIdeal.Frame
public import proofs.«01_k».proof.Proof.Gen.PropIdeal.Loops
public import proofs.«01_k».proof.Proof.Gen.PropIdeal.Skeleton

@[expose] public section

set_option maxRecDepth 16384

noncomputable section

namespace Cert.PropIdeal.Hand

open Cert.PropIdeal Cert.PropIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- THE BODY RUN: the pieces written into the two results' blocks and the three error-limb buffers, found by the run. -/
def kernelRun (c : Dev nD) (i : grid0.Coords) (arg1 : Memref sig .tc .vmem S3x384x256 .bf16) (harg1 : arg1.IsWhole) (arg2 : Memref sig .tc .vmem S3x384x128 .i8) (harg2 : arg2.IsWhole) (arg3 : Memref sig .tc .vmem S3x2x4x256 .bf16) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S3x384x256 .bf16) (harg6 : arg6.IsWhole) (arg7 : Memref sig .tc .vmem S3x384x256 .f32) (harg7 : arg7.IsWhole) (arg8 : Memref sig .tc .vmem S16x1152x256 .bf16) (harg8 : arg8.IsWhole) (arg9 : Memref sig .tc .vmem S16x1152x256 .bf16) (harg9 : arg9.IsWhole) (arg10 : Memref sig .tc .vmem S16x1152x256 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x256 .f32) (harg14 : arg14.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L6 : List (View.Piece (Elt F) S3x384x256 .bf16)) (L7 : List (View.Piece (Elt F) S3x384x256 .f32)) (L8 : List (View.Piece (Elt F) S16x1152x256 .bf16)) (L9 : List (View.Piece (Elt F) S16x1152x256 .bf16)), { L10 : List (View.Piece (Elt F) S16x1152x256 .bf16) //
      ∀ (f6 : BufTy.Contents (Elt F) arg6.view.ty) (f7 : BufTy.Contents (Elt F) arg7.view.ty),
        (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
        ⊢ wp frame (wpE (defs₀ (F := F)) Variants.none (c : Thread nD τ) none) Set.univ (cc0_propagate (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) arg6.view.junk L6)) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)))) } := by
  refine ⟨?_, ?_, ?_, ?_, ?_, fun f6 f7 => ?run⟩
  case run =>
    rw [cc0_propagate_eq_skeleton]
    unfold cc0_propagate_skel
    iintro ⟨H1, H2, H3, H4, H5, H6, H7, H8, H9, H10, H11, H12, H13, H14⟩
    sl_exec
    sl_step
    sl_close

end Cert.PropIdeal.Hand

end
-- ==== Proof.PropIdealFrame.lean ====
/- Hand-written. The frame of `PropIdeal`: the program terminates without a fault, its arguments end as they
   started and every semaphore counter ends at zero. The two results are forgotten here. -/
module

public import proofs.«01_k».proof.Proof.PropIdealBody

@[expose] public section

set_option maxRecDepth 16384

noncomputable section

namespace Cert.PropIdeal.Hand

open Cert.PropIdeal Cert.PropIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers at anything and the generator register, as separate conjuncts. -/
theorem PhiA_eq (c : Dev nD) : (Pipeline.ΦA (U := UR sig nD τ) (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]

/-- The results' windows, forgotten. -/
def fgt : Fin 7 → Bool := ![false, false, false, false, false, true, true]

/-- The proof data of the frame: each input's staging buffer holds its block, the results are unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Dat.unnamed (cfg := cfg0) (Val := Elt F) ⟨5, h⟩ t
    | ⟨6, h⟩ => Dat.unnamed (cfg := cfg0) (Val := Elt F) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after_in0 m c) t d
theorem after_in1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after_in1 m c) t d
theorem after_in2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after_in2 m c) t d
theorem after_in3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after_in3 m c) t d
theorem after_in4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after_in4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq]
  rw [show (dats m 0 c).owesAt () t.succ = (dats m 0 c).owesAt () t.castSucc from rfl]
  unfold owns
  iintro ⟨⟨⟨⟨%s0, %g0, %hg0, S0⟩, ⟨%s1, %g1, %hg1, S1⟩, ⟨%s2, %g2, %hg2, S2⟩, ⟨%s3, %g3, %hg3, S3⟩, ⟨%s4, %g4, %hg4, S4⟩, ⟨%s5, %g5, %hg5, S5⟩, ⟨%s6, %g6, %hg6, S6⟩⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  iapply (wp_wand_r Idealize.ShloMosaic.frame (wpE (defs₀ (F := F)) Variants.none (c : Thread nD τ) none) Set.univ)
  isplitl [H0 H1 H2 H3 H4 H5 H6 S0 S1 S2 S3 S4 S5 S6]
  · iapply ((kernelRun c (grid0.coords t) _ _ _ _ _ _ _ _ _ _ _ _ _ _ _ _ _ _ _ _ _ _ _ _ _ _ _ _ f0 f1 f2 f3 f4 g0 g1 g2 g3 g4 g5 g6).2.2.2.2.2 f5 f6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iexact S6
  · iintro %_ ⟨H0, H1, H2, H3, H4, H5, H6, S0, S1, S2, ⟨%e3, S3⟩, ⟨%e4, S4⟩, ⟨%e5, S5⟩, ⟨%e6, S6⟩⟩
    isplitl [Hg S0 S1 S2 S3 S4 S5 S6]
    · isplitr [Hg]; swap; · iexact Hg
      isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      isplitl [S4]
      · iexists _, _; isplitr; swap; · iexact S4
        ipureintro; rfl
      isplitl [S5]
      · iexists _, _; isplitr; swap; · iexact S5
        ipureintro; rfl
      iexists _, _; isplitr; swap; · iexact S6
      ipureintro; rfl
    isplitl [HW]; · iexact HW
    isplitl [H0]
    · iexists _; isplitr; swap; · iexact H0
      ipureintro; rw [after_in0, ← before0 m c t d0]; exact hf0
    isplitl [H1]
    · iexists _; isplitr; swap; · iexact H1
      ipureintro; rw [after_in1, ← before1 m c t d1]; exact hf1
    isplitl [H2]
    · iexists _; isplitr; swap; · iexact H2
      ipureintro; rw [after_in2, ← before2 m c t d2]; exact hf2
    isplitl [H3]
    · iexists _; isplitr; swap; · iexact H3
      ipureintro; rw [after_in3, ← before3 m c t d3]; exact hf3
    isplitl [H4]
    · iexists _; isplitr; swap; · iexact H4
      ipureintro; rw [after_in4, ← before4 m c t d4]; exact hf4
    isplitl [H5]
    · iexists _, _; isplitr; swap; · iexact H5
      ipureintro; rfl
    iexists _, _; isplitr; swap; · iexact H6
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c =>
     ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c))⟩, h.2⟩) (run_main m ρ)

end Cert.PropIdeal.Hand

end
-- ==== Proof.RefRun.lean ====
/- The reference's run: what its loop and its host operations leave alone, and its frame. -/
module

public import proofs.«01_k».proof.Proof.Gen.ReferenceIdeal.Run
public import Idealize.ShloMosaic.Lib.Quiescent

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.SL.Sem
open Idealize.ShloMosaic.StableHlo

variable {F : FTy → Type} [FloatOps F]
variable (m : (ℓ : Loc nD τ sig) → Buf (Elt F) ℓ) (ρ : Dev nD → PrngReg)

/-- A buffer that no operation of the loop writes holds at every trip what it held at the loop's entry. -/
theorem atK_keep (c : Dev nD) (r : Ref sig .tc) (hc : r ∉ condOps_W) (h0 : r ∉ while0Ops0_W) (h1 : r ∉ while0Ops0_1_W)
    (h2 : r ∉ while0Ops0_2_W) (h3 : r ∉ while0Ops0_3_W) :
    ∀ k, atK m k c (Proc.devRef .tc r) = entryContents preI m c (Proc.devRef .tc r)
  | 0 => rfl
  | k + 1 => by
    show after while0Ops0_3 (after while0Ops0_2 (after while0Ops0_1 (after while0Ops0 (after condOps (atK m k c))))) _ = _
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, atK_keep c r hc h0 h1 h2 h3 k]

/-- The same at the program's end. -/
theorem final_keep (c : Dev nD) (r : Ref sig .tc) (hc : r ∉ condOps_W) (h0 : r ∉ while0Ops0_W) (h1 : r ∉ while0Ops0_1_W)
    (h2 : r ∉ while0Ops0_2_W) (h3 : r ∉ while0Ops0_3_W) (hp : r ∉ hostOps0_3_W) :
    finalContents condOps preI bodyI postI 16 m c (Proc.devRef .tc r) = entryContents preI m c (Proc.devRef .tc r) := by
  show after hostOps0_3 (after condOps (atK m 16 c)) _ = _
  rw [after_of_writes_sub hostOps0_3 _ hostOps0_3_writes hp, after_of_writes_sub condOps _ condOps_writes hc,
    atK_keep m c r hc h0 h1 h2 h3 16]

/-- A buffer that no operation before the loop writes holds at the loop's entry what it held at the launch. -/
theorem entry_keep (c : Dev nD) (r : Ref sig .tc) (h0 : r ∉ hostOps0_W) (h1 : r ∉ hostOps0_1_W) (h2 : r ∉ hostOps0_2_W) :
    entryContents preI m c (Proc.devRef .tc r) = m ((c.tc : Thread nD τ).loc r) := by
  show after hostOps0_2 (after hostOps0_1 (after hostOps0 (launchContents m c))) _ = _
  rw [after_of_writes_sub hostOps0_2 _ hostOps0_2_writes h2, after_of_writes_sub hostOps0_1 _ hostOps0_1_writes h1,
    after_of_writes_sub hostOps0 _ hostOps0_writes h0]

theorem final_arg0 (c : Dev nD) : finalContents condOps preI bodyI postI 16 m c (Proc.devRef .tc main_arg0) = m ((c.tc : Thread nD τ).loc main_arg0) :=
  (final_keep m c main_arg0 (by decide) (by decide) (by decide) (by decide) (by decide) (by decide)).trans
    (entry_keep m c main_arg0 (by decide) (by decide) (by decide))
theorem final_arg1 (c : Dev nD) : finalContents condOps preI bodyI postI 16 m c (Proc.devRef .tc main_arg1) = m ((c.tc : Thread nD τ).loc main_arg1) :=
  (final_keep m c main_arg1 (by decide) (by decide) (by decide) (by decide) (by decide) (by decide)).trans
    (entry_keep m c main_arg1 (by decide) (by decide) (by decide))
theorem final_arg2 (c : Dev nD) : finalContents condOps preI bodyI postI 16 m c (Proc.devRef .tc main_arg2) = m ((c.tc : Thread nD τ).loc main_arg2) :=
  (final_keep m c main_arg2 (by decide) (by decide) (by decide) (by decide) (by decide) (by decide)).trans
    (entry_keep m c main_arg2 (by decide) (by decide) (by decide))
theorem final_arg3 (c : Dev nD) : finalContents condOps preI bodyI postI 16 m c (Proc.devRef .tc main_arg3) = m ((c.tc : Thread nD τ).loc main_arg3) :=
  (final_keep m c main_arg3 (by decide) (by decide) (by decide) (by decide) (by decide) (by decide)).trans
    (entry_keep m c main_arg3 (by decide) (by decide) (by decide))
theorem final_arg4 (c : Dev nD) : finalContents condOps preI bodyI postI 16 m c (Proc.devRef .tc main_arg4) = m ((c.tc : Thread nD τ).loc main_arg4) :=
  (final_keep m c main_arg4 (by decide) (by decide) (by decide) (by decide) (by decide) (by decide)).trans
    (entry_keep m c main_arg4 (by decide) (by decide) (by decide))

/-- THE FRAME: the arguments unchanged; the program declares no semaphore. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h c main_arg0 rfl).trans (final_arg0 m c), (h c main_arg1 rfl).trans (final_arg1 m c),
       (h c main_arg2 rfl).trans (final_arg2 m c), (h c main_arg3 rfl).trans (final_arg3 m c),
       (h c main_arg4 rfl).trans (final_arg4 m c)⟩, sem_eq_zero_of_no_sems (by decide) r.2⟩) (run_fold m ρ)

end Cert.ReferenceIdeal.Hand

end
-- ==== Proof.Blocks.lean ====
module

public import proofs.«01_k».proof.Proof.PropIdealFrame
public import Idealize.ShloMosaic.Lib.Pipeline.ValueKit.Geometry
public import Idealize.ShloMosaic.Lib.ValueIdx

/-!
# The windows' blocks at coordinates

Grid point `t` works on columns `256 t … 256 t + 255`. Its blocks are those columns of the weights, of `u` and of
both results, the codes of two neighbouring panels, the two codebook groups of the panel and the panel's inverse.
-/

@[expose] public section

set_option maxRecDepth 16384

noncomputable section

namespace Cert.PropIdeal.Hand

open Cert.PropIdeal Cert.PropIdeal.Gen
open Idealize.ShloMosaic
open Idealize.ShloMosaic.TcCoe Idealize.ShloMosaic.ValueIdx

variable (m : (ℓ : Loc nD τ sig) → Buf (Elt Ideal) ℓ)

theorem coords_val : ∀ t : Fin cfg0.N, ((grid0.coords t) 0).val = t.val := by decide +kernel
theorem lt16 (t : Fin cfg0.N) : t.val < 16 := lt_of_lt_of_eq t.isLt N_0

theorem idx0 : ∀ t : Fin cfg0.N, win0_0.index t = ![0, 0, t.val] := by decide +kernel
theorem idx1 : ∀ t : Fin cfg0.N, win0_1.index t = ![0, 0, t.val / 2] := by decide +kernel
theorem idx2 : ∀ t : Fin cfg0.N, win0_2.index t = ![0, t.val, 0, 0] := by decide +kernel
theorem idx3 : ∀ t : Fin cfg0.N, win0_3.index t = ![0, t.val] := by decide +kernel
theorem idx4 : ∀ t : Fin cfg0.N, win0_4.index t = ![t.val, 0, 0] := by decide +kernel
theorem idx5 : ∀ t : Fin cfg0.N, win0_5.index t = ![0, 0, t.val] := by decide +kernel
theorem idx6 : ∀ t : Fin cfg0.N, win0_6.index t = ![0, 0, t.val] := by decide +kernel

/-- Column `l` of panel `t`. -/
abbrev col (t : Fin cfg0.N) (l : Fin 256) : Fin 4096 := ⟨256 * t.val + l.val, by have := lt16 t; have := l.isLt; omega⟩

theorem rd0 (c : Dev nD) (t : Fin cfg0.N) (a : Fin 3) (r : Fin 384) (l : Fin 256) :
    iblk m c 0 t (ix3 a r l) = V m c main_arg0 (ix3 a r (col t l)) := by
  have h : ∀ d : Fin 3, ((win0_0.blk t).view.emb (ix3 a r l : S3x384x256.Idx) d).val = ((ix3 a r (col t l) : S3x384x4096.Idx) d).val := by
    intro d
    blk_simp [idx0 t]
    match d with
    | ⟨0, _⟩ => show 0 * 3 + a.val = a.val; omega
    | ⟨1, _⟩ => show 0 * 384 + r.val = r.val; omega
    | ⟨2, _⟩ => show t.val * 256 + l.val = 256 * t.val + l.val; omega
  exact congrArg (V m c main_arg0) (funext fun d => Fin.ext (h d))

theorem rd1 (c : Dev nD) (t : Fin cfg0.N) (a : Fin 3) (r : Fin 384) (x : Fin 128) :
    iblk m c 1 t (ix3 a r x) = V m c main_arg1 (ix3 a r (⟨128 * (t.val / 2) + x.val, by have := lt16 t; have := x.isLt; omega⟩ : Fin 1024)) := by
  have h : ∀ d : Fin 3, ((win0_1.blk t).view.emb (ix3 a r x : S3x384x128.Idx) d).val = ((ix3 a r (⟨128 * (t.val / 2) + x.val, by have := lt16 t; have := x.isLt; omega⟩ : Fin 1024) : S3x384x1024.Idx) d).val := by
    intro d
    blk_simp [idx1 t]
    match d with
    | ⟨0, _⟩ => show 0 * 3 + a.val = a.val; omega
    | ⟨1, _⟩ => show 0 * 384 + r.val = r.val; omega
    | ⟨2, _⟩ => show t.val / 2 * 128 + x.val = 128 * (t.val / 2) + x.val; omega
  exact congrArg (V m c main_arg1) (funext fun d => Fin.ext (h d))

theorem rd2 (c : Dev nD) (t : Fin cfg0.N) (a : Fin 3) (h : Fin 2) (q : Fin 4) (x : Fin 256) :
    iblk m c 2 t (ix4 a h q x) = V m c main_v0 (ix4 a (⟨2 * t.val + h.val, by have := lt16 t; have := h.isLt; omega⟩ : Fin 32) q x) := by
  have hh : ∀ d : Fin 4, ((win0_2.blk t).view.emb (ix4 a h q x : S3x2x4x256.Idx) d).val = ((ix4 a (⟨2 * t.val + h.val, by have := lt16 t; have := h.isLt; omega⟩ : Fin 32) q x : S3x32x4x256.Idx) d).val := by
    intro d
    blk_simp [idx2 t]
    match d with
    | ⟨0, _⟩ => show 0 * 3 + a.val = a.val; omega
    | ⟨1, _⟩ => show t.val * 2 + h.val = 2 * t.val + h.val; omega
    | ⟨2, _⟩ => show 0 * 4 + q.val = q.val; omega
    | ⟨3, _⟩ => show 0 * 256 + x.val = x.val; omega
  exact congrArg (V m c main_v0) (funext fun d => Fin.ext (hh d))

theorem rd3 (c : Dev nD) (t : Fin cfg0.N) (p : Fin 4096) (l : Fin 256) :
    iblk m c 3 t (ix2 p l) = V m c main_arg3 (ix2 p (col t l)) := by
  have h : ∀ d : Fin 2, ((win0_3.blk t).view.emb (ix2 p l : S4096x256.Idx) d).val = ((ix2 p (col t l) : S4096x4096.Idx) d).val := by
    intro d
    blk_simp [idx3 t]
    match d with
    | ⟨0, _⟩ => show 0 * 4096 + p.val = p.val; omega
    | ⟨1, _⟩ => show t.val * 256 + l.val = 256 * t.val + l.val; omega
  exact congrArg (V m c main_arg3) (funext fun d => Fin.ext (h d))

theorem rd4 (c : Dev nD) (t : Fin cfg0.N) (l j : Fin 256) :
    iblk m c 4 t (ix3 (0 : Fin 1) l j) = V m c main_arg4 (ix3 (⟨t.val, lt16 t⟩ : Fin 16) l j) := by
  have h : ∀ d : Fin 3, ((win0_4.blk t).view.emb (ix3 (0 : Fin 1) l j : S1x256x256.Idx) d).val = ((ix3 (⟨t.val, lt16 t⟩ : Fin 16) l j : S16x256x256.Idx) d).val := by
    intro d
    blk_simp [idx4 t]
    match d with
    | ⟨0, _⟩ => show t.val * 1 + 0 = t.val; omega
    | ⟨1, _⟩ => show 0 * 256 + l.val = l.val; omega
    | ⟨2, _⟩ => show 0 * 256 + j.val = j.val; omega
  exact congrArg (V m c main_arg4) (funext fun d => Fin.ext (h d))

theorem rd5 (c : Dev nD) (t : Fin cfg0.N) (X : Buf (Elt Ideal) ((c : Thread nD τ).loc main_v1_0)) (a : Fin 3) (r : Fin 384) (l : Fin 256) :
    ((cfg0.win 5).blk t).view.read (Elt Ideal) X (ix3 a r l) = X (ix3 a r (col t l)) := by
  have h : ∀ d : Fin 3, ((win0_5.blk t).view.emb (ix3 a r l : S3x384x256.Idx) d).val = ((ix3 a r (col t l) : S3x384x4096.Idx) d).val := by
    intro d
    blk_simp [idx5 t]
    match d with
    | ⟨0, _⟩ => show 0 * 3 + a.val = a.val; omega
    | ⟨1, _⟩ => show 0 * 384 + r.val = r.val; omega
    | ⟨2, _⟩ => show t.val * 256 + l.val = 256 * t.val + l.val; omega
  exact congrArg X (funext fun d => Fin.ext (h d))

theorem rd6 (c : Dev nD) (t : Fin cfg0.N) (X : Buf (Elt Ideal) ((c : Thread nD τ).loc main_v1_1)) (a : Fin 3) (r : Fin 384) (l : Fin 256) :
    ((cfg0.win 6).blk t).view.read (Elt Ideal) X (ix3 a r l) = X (ix3 a r (col t l)) := by
  have h : ∀ d : Fin 3, ((win0_6.blk t).view.emb (ix3 a r l : S3x384x256.Idx) d).val = ((ix3 a r (col t l) : S3x384x4096.Idx) d).val := by
    intro d
    blk_simp [idx6 t]
    match d with
    | ⟨0, _⟩ => show 0 * 3 + a.val = a.val; omega
    | ⟨1, _⟩ => show 0 * 384 + r.val = r.val; omega
    | ⟨2, _⟩ => show t.val * 256 + l.val = 256 * t.val + l.val; omega
  exact congrArg X (funext fun d => Fin.ext (h d))

/-- The codebook as the kernel takes it, its last two axes exchanged. -/
theorem V_v0 (c : Dev nD) (a : Fin 3) (g : Fin 32) (q : Fin 4) (x : Fin 256) :
    V m c main_v0 (ix4 a g q x) = m ((c : Thread nD τ).loc main_arg2) (ix4 a g x q) := by
  have e : V m c main_v0 = transpose S3x32x4x256 [0, 1, 3, 2] (m ((c : Thread nD τ).loc main_arg2)) transposes_S3x32x256x4_S3x32x4x256_0_1_3_2 := by
    dsimp only [V, hostOps0]
    after_results
  rw [e]
  refine congrArg (m ((c : Thread nD τ).loc main_arg2)) (funext fun d => Fin.ext ?_)
  match d with
  | ⟨0, _⟩ => rfl
  | ⟨1, _⟩ => rfl
  | ⟨2, _⟩ => rfl
  | ⟨3, _⟩ => rfl

end Cert.PropIdeal.Hand
-- ==== Proof.Sem.lean ====
module

public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.Pipeline.Value

/-!
# The mathematics of the error propagation, over the reals

`panel r0 u v b i j` is the error of row `i` at column `j` of panel `b`: the residual of the panel
less the products of every earlier panel's error with its block of `u`, times the panel's inverse.
`rest r0 u v b k i l` is the residual of panel `b` after the first `k` earlier panels are taken off.
-/

@[expose] public section

namespace Cert.Sem

open Idealize.ShloMosaic Idealize.ShloMosaic.ValueIdx
open scoped BigOperators

/-- The error of panel `b`. -/
noncomputable def panel (r0 u : ℕ → ℕ → ℝ) (v : ℕ → ℕ → ℕ → ℝ) : ℕ → ℕ → ℕ → ℝ
  | b => fun i j => ∑ l : Fin 256, (r0 i (256 * b + l.val)
      - ∑ k : Fin b, ∑ p : Fin 256, panel r0 u v k.val i p.val * u (256 * k.val + p.val) (256 * b + l.val)) * v b l.val j
termination_by b => b
decreasing_by exact k.2

/-- The residual of panel `b` less the first `k` earlier panels. -/
noncomputable def rest (r0 u : ℕ → ℕ → ℝ) (v : ℕ → ℕ → ℕ → ℝ) (b k i l : ℕ) : ℝ :=
  r0 i (256 * b + l)
    - ∑ k' ∈ Finset.range k, ∑ p : Fin 256, panel r0 u v k' i p.val * u (256 * k' + p.val) (256 * b + l)

variable (r0 u : ℕ → ℕ → ℝ) (v : ℕ → ℕ → ℕ → ℝ)

theorem panel_eq (b i j : ℕ) :
    panel r0 u v b i j = ∑ l : Fin 256, rest r0 u v b b i l.val * v b l.val j := by
  rw [panel]
  simp only [rest, Finset.sum_range]

theorem rest_zero (b i l : ℕ) : rest r0 u v b 0 i l = r0 i (256 * b + l) := by
  simp [rest]

theorem rest_succ (b k i l : ℕ) : rest r0 u v b (k + 1) i l
    = rest r0 u v b k i l - ∑ p : Fin 256, panel r0 u v k i p.val * u (256 * k + p.val) (256 * b + l) := by
  simp only [rest, Finset.sum_range_succ]; ring

/-- A sum of products of reals, read among the extended reals. -/
theorem coe_sum_mul {n : ℕ} (a b : Fin n → ℝ) :
    ∑ k : Fin n, ((a k : EReal) * (b k : EReal)) = ((∑ k : Fin n, a k * b k : ℝ) : EReal) := by
  have h : ∀ s : Finset (Fin n), ∑ k ∈ s, ((a k : EReal) * (b k : EReal)) = ((∑ k ∈ s, a k * b k : ℝ) : EReal) := by
    intro s
    induction s using Finset.cons_induction with
    | empty => simp
    | cons x s hx ih => rw [Finset.sum_cons, Finset.sum_cons, ih, EReal.coe_add, EReal.coe_mul]
  exact h Finset.univ

/-- A real less itself is nothing. -/
theorem coe_sub_self (a : ℝ) : (a : EReal) - (a : EReal) = 0 := by
  rw [← EReal.coe_sub, sub_self]; rfl

/-- A plain product onto a zero accumulator, of reals. -/
theorem dot_real {M K N : ℕ} {φ₁ φ₂ : FTy} (prec : Option ContractPrecision)
    (lhs : FVec Ideal ⟨2, ![M, K]⟩ φ₁) (rhs : FVec Ideal ⟨2, ![K, N]⟩ φ₂) (r : Fin M) (c : Fin N)
    (X Y : Fin K → ℝ) (hX : ∀ k, lhs (ix2 r k) = ((X k : ℝ) : EReal)) (hY : ∀ k, rhs (ix2 k c) = ((Y k : ℝ) : EReal)) :
    FloatOps.matmul (DotDims.plain M K N) prec lhs rhs (constant (F := Ideal) ⟨2, ![M, N]⟩ .f32 0x00000000#32) (ix2 r c)
      = ((∑ k : Fin K, X k * Y k : ℝ) : EReal) := by
  rw [Ideal.matmul_plain_apply, constant_apply, Ideal.ofBits_zero_f32, zero_add, ← coe_sum_mul]
  exact Finset.sum_congr rfl fun k _ => by rw [hX, hY]

/-- A plain product onto a zero accumulator whose left row is zero. -/
theorem dot_zero_left {M K N : ℕ} {φ₁ φ₂ : FTy} (prec : Option ContractPrecision)
    (lhs : FVec Ideal ⟨2, ![M, K]⟩ φ₁) (rhs : FVec Ideal ⟨2, ![K, N]⟩ φ₂) (r : Fin M) (c : Fin N)
    (hX : ∀ k, lhs (ix2 r k) = (0 : EReal)) :
    FloatOps.matmul (DotDims.plain M K N) prec lhs rhs (constant (F := Ideal) ⟨2, ![M, N]⟩ .f32 0x00000000#32) (ix2 r c)
      = (0 : EReal) := by
  rw [Ideal.matmul_plain_apply, constant_apply, Ideal.ofBits_zero_f32, zero_add]
  exact Finset.sum_eq_zero fun k _ => by rw [hX]; exact zero_mul (M₀ := EReal) _

/-- A plain product onto a zero accumulator whose right column is zero. -/
theorem dot_zero_right {M K N : ℕ} {φ₁ φ₂ : FTy} (prec : Option ContractPrecision)
    (lhs : FVec Ideal ⟨2, ![M, K]⟩ φ₁) (rhs : FVec Ideal ⟨2, ![K, N]⟩ φ₂) (r : Fin M) (c : Fin N)
    (hY : ∀ k, rhs (ix2 k c) = (0 : EReal)) :
    FloatOps.matmul (DotDims.plain M K N) prec lhs rhs (constant (F := Ideal) ⟨2, ![M, N]⟩ .f32 0x00000000#32) (ix2 r c)
      = (0 : EReal) := by
  rw [Ideal.matmul_plain_apply, constant_apply, Ideal.ofBits_zero_f32, zero_add]
  exact Finset.sum_eq_zero fun k _ => by rw [hY]; exact mul_zero (M₀ := EReal) _

end Cert.Sem
-- ==== Proof.Limbs.lean ====
module

public import proofs.«01_k».proof.Proof.Gen.PropIdeal.Skeleton
public import proofs.«01_k».proof.Proof.Sem

/-!
# The three-limb products of the kernel, over the reals

A real splits into itself and two zero limbs, so the six products of a three-limb product are one
product and five zeros.
-/

@[expose] public section

set_option maxRecDepth 16384

noncomputable section

namespace Cert.PropIdeal.Hand

open Cert.PropIdeal Cert.PropIdeal.Gen Cert.Sem
open Idealize.ShloMosaic Idealize.ShloMosaic.ValueIdx
open scoped BigOperators

/-- The kernel's product onto zero. -/
def D (a : FVec Ideal S1152x256 .bf16) (b : FVec Ideal S256x256 .bf16) : FVec Ideal S1152x256 .f32 :=
  matmul dot_S1152x256_S256x256_S1152x256_1_0_0_1_n_n none a b (constant (F := Ideal) S1152x256 .f32 0x00000000#32)

theorem D_real (a : FVec Ideal S1152x256 .bf16) (b : FVec Ideal S256x256 .bf16) (r : Fin 1152) (c : Fin 256) (X Y : Fin 256 → ℝ)
    (hX : ∀ k, a (ix2 r k) = ((X k : ℝ) : EReal)) (hY : ∀ k, b (ix2 k c) = ((Y k : ℝ) : EReal)) :
    D a b (ix2 r c) = ((∑ k : Fin 256, X k * Y k : ℝ) : EReal) :=
  dot_real (M := 1152) (K := 256) (N := 256) none a b r c X Y hX hY
theorem D_zero_left (a : FVec Ideal S1152x256 .bf16) (b : FVec Ideal S256x256 .bf16) (r : Fin 1152) (c : Fin 256)
    (hX : ∀ k, a (ix2 r k) = (0 : EReal)) : D a b (ix2 r c) = (0 : EReal) :=
  dot_zero_left (M := 1152) (K := 256) (N := 256) none a b r c hX
theorem D_zero_right (a : FVec Ideal S1152x256 .bf16) (b : FVec Ideal S256x256 .bf16) (r : Fin 1152) (c : Fin 256)
    (hY : ∀ k, b (ix2 k c) = (0 : EReal)) : D a b (ix2 r c) = (0 : EReal) :=
  dot_zero_right (M := 1152) (K := 256) (N := 256) none a b r c hY

/-- The five small products and the large one, added in the kernel's order. -/
theorem six_sum (a : EReal) : ((((0 : EReal) + 0) + 0) + (0 + 0)) + a = a := by simp

/-- The update of the residual by one earlier panel. -/
theorem pay111_apply (x : Vec Ideal S1152x256 .f32) (e0 e1 e2 : Vec Ideal S1x1152x256 .bf16) (u0 u1 u2 : Vec Ideal S256x256 .bf16)
    (r : Fin 1152) (c : Fin 256) (R : ℝ) (E U : Fin 256 → ℝ) (hx : x (ix2 r c) = ((R : ℝ) : EReal))
    (h0 : ∀ p, e0 (ix3 (0 : Fin 1) r p) = ((E p : ℝ) : EReal)) (h1 : ∀ p, e1 (ix3 (0 : Fin 1) r p) = (0 : EReal))
    (h2 : ∀ p, e2 (ix3 (0 : Fin 1) r p) = (0 : EReal)) (g0 : ∀ p, u0 (ix2 p c) = ((U p : ℝ) : EReal))
    (g1 : ∀ p, u1 (ix2 p c) = (0 : EReal)) (g2 : ∀ p, u2 (ix2 p c) = (0 : EReal)) :
    k0_pay111 x e0 e1 e2 u0 u1 u2 (ix2 r c) = ((R - ∑ p : Fin 256, E p * U p : ℝ) : EReal) := by
  have s : ∀ e : Vec Ideal S1x1152x256 .bf16, ∀ p : Fin 256, (shapeCast S1152x256 e shapeCasts_S1x1152x256_S1152x256 : FVec Ideal S1152x256 .bf16) (ix2 r p) = e (ix3 (0 : Fin 1) r p) :=
    fun e p => shapeCast_1ab_ab_apply _ _ _ _
  have step : k0_pay111 x e0 e1 e2 u0 u1 u2
      = subf x (addf (addf (addf (addf (D (shapeCast S1152x256 e2 shapeCasts_S1x1152x256_S1152x256) u0) (D (shapeCast S1152x256 e0 shapeCasts_S1x1152x256_S1152x256) u2))
          (D (shapeCast S1152x256 e1 shapeCasts_S1x1152x256_S1152x256) u1))
          (addf (D (shapeCast S1152x256 e1 shapeCasts_S1x1152x256_S1152x256) u0) (D (shapeCast S1152x256 e0 shapeCasts_S1x1152x256_S1152x256) u1)))
          (D (shapeCast S1152x256 e0 shapeCasts_S1x1152x256_S1152x256) u0)) := by
    refine Eq.trans ?_ (shapeCast_self _ shapeCasts_S1152x256_S1152x256)
    rfl
  rw [step]
  simp only [subf_apply, addf_apply]
  rw [D_zero_left _ u0 r c (fun k => (s e2 k).trans (h2 k)), D_zero_right _ u2 r c g2, D_zero_left _ u1 r c (fun k => (s e1 k).trans (h1 k)),
    D_zero_left _ u0 r c (fun k => (s e1 k).trans (h1 k)), D_zero_right _ u1 r c g1,
    D_real _ u0 r c E U (fun k => (s e0 k).trans (h0 k)) g0, six_sum, hx, ← EReal.coe_sub]

/-- The limbs of a block of `u`. -/
theorem pay102_apply (x : Vec Ideal S256x256 .f32) (y : S256x256.Idx) : k0_pay102 x y = x y := by
  exact congrFun (shapeCast_self (k0_pay99 x) shapeCasts_S256x256_S256x256) y
theorem pay103_apply (x : Vec Ideal S256x256 .f32) (y : S256x256.Idx) (a : ℝ) (h : x y = ((a : ℝ) : EReal)) : k0_pay103 x y = (0 : EReal) := by
  refine (congrFun (shapeCast_self (k0_pay101 x) shapeCasts_S256x256_S256x256) y).trans ?_
  show (x y : EReal) - x y = 0
  rw [h, coe_sub_self]
theorem pay104_apply (x : Vec Ideal S256x256 .f32) (y : S256x256.Idx) (a : ℝ) (h : x y = ((a : ℝ) : EReal)) : k0_pay104 x y = (0 : EReal) := by
  refine (congrFun (shapeCast_self (truncf .bf16 (subf (k0_pay100 x) (extf .f32 (k0_pay101 x) bitsLt_bf16_f32)) bitsLt_bf16_f32) shapeCasts_S256x256_S256x256) y).trans ?_
  show ((x y : EReal) - x y) - ((x y : EReal) - x y) = 0
  rw [h, coe_sub_self]; simp

/-- The error of the panel: the residual times the panel's inverse. -/
theorem pay117_apply (x : Vec Ideal S1152x256 .f32) (w : Vec Ideal S1x256x256 .f32) (r : Fin 1152) (c : Fin 256) (X W : Fin 256 → ℝ)
    (hx : ∀ l, x (ix2 r l) = ((X l : ℝ) : EReal)) (hw : ∀ l, w (ix3 (0 : Fin 1) l c) = ((W l : ℝ) : EReal)) :
    k0_pay117 (k0_pay113 x) (k0_pay115 w) (k0_pay116 x w) (constant (F := Ideal) S1152x256 .f32 0x00000000#32) (ix2 r c)
      = ((∑ l : Fin 256, X l * W l : ℝ) : EReal) := by
  have s : ∀ p : Fin 256, k0_pay114 w (ix2 p c) = ((W p : ℝ) : EReal) := fun p => by
    unfold k0_pay114
    exact (shapeCast_1ab_ab_apply _ _ _ _).trans (hw p)
  let x1 : FVec Ideal S1152x256 .bf16 := truncf .bf16 (subf x (extf .f32 (k0_pay113 x) bitsLt_bf16_f32)) bitsLt_bf16_f32
  let x2 : FVec Ideal S1152x256 .bf16 := truncf .bf16 (subf (subf x (extf .f32 (k0_pay113 x) bitsLt_bf16_f32)) (extf .f32 x1 bitsLt_bf16_f32)) bitsLt_bf16_f32
  let w1 : FVec Ideal S256x256 .bf16 := truncf .bf16 (subf (k0_pay114 w) (extf .f32 (k0_pay115 w) bitsLt_bf16_f32)) bitsLt_bf16_f32
  let w2 : FVec Ideal S256x256 .bf16 := truncf .bf16 (subf (subf (k0_pay114 w) (extf .f32 (k0_pay115 w) bitsLt_bf16_f32)) (extf .f32 w1 bitsLt_bf16_f32)) bitsLt_bf16_f32
  have hx1 : ∀ k, x1 (ix2 r k) = (0 : EReal) := fun k => by
    show (x (ix2 r k) : EReal) - x (ix2 r k) = 0
    rw [hx, coe_sub_self]
  have hx2 : ∀ k, x2 (ix2 r k) = (0 : EReal) := fun k => by
    show ((x (ix2 r k) : EReal) - x (ix2 r k)) - ((x (ix2 r k) : EReal) - x (ix2 r k)) = 0
    rw [hx, coe_sub_self]; simp
  have hw1 : ∀ k, w1 (ix2 k c) = (0 : EReal) := fun k => by
    show (k0_pay114 w (ix2 k c) : EReal) - k0_pay114 w (ix2 k c) = 0
    rw [s, coe_sub_self]
  have hw2 : ∀ k, w2 (ix2 k c) = (0 : EReal) := fun k => by
    show ((k0_pay114 w (ix2 k c) : EReal) - k0_pay114 w (ix2 k c)) - ((k0_pay114 w (ix2 k c) : EReal) - k0_pay114 w (ix2 k c)) = 0
    rw [s, coe_sub_self]; simp
  have step : k0_pay117 (k0_pay113 x) (k0_pay115 w) (k0_pay116 x w) (constant (F := Ideal) S1152x256 .f32 0x00000000#32)
      = addf (addf (addf (addf (D x2 (k0_pay115 w)) (D (k0_pay113 x) w2)) (D x1 w1))
          (addf (D x1 (k0_pay115 w)) (D (k0_pay113 x) w1))) (D (k0_pay113 x) (k0_pay115 w)) := rfl
  rw [step]
  simp only [addf_apply]
  rw [D_zero_left x2 _ r c hx2, D_zero_right _ w2 r c hw2, D_zero_left x1 w1 r c hx1, D_zero_left x1 _ r c hx1, D_zero_right _ w1 r c hw1,
    D_real (k0_pay113 x) (k0_pay115 w) r c X W hx s, six_sum]

/-- The limbs of the error, as the scratch buffers keep them. -/
theorem pay121_apply (a : FVec Ideal S1152x256 .bf16) (b : FVec Ideal S256x256 .bf16) (s z : FVec Ideal S1152x256 .f32) (u : Fin 1) (r : Fin 1152) (c : Fin 256) :
    k0_pay121 a b s z (ix3 u r c) = k0_pay117 a b s z (ix2 r c) := by
  unfold k0_pay121
  exact (shapeCast_ab_1ab_apply _ _ _ _ _).trans rfl
theorem pay122_apply (a : FVec Ideal S1152x256 .bf16) (b : FVec Ideal S256x256 .bf16) (s z : FVec Ideal S1152x256 .f32) (u : Fin 1) (r : Fin 1152) (c : Fin 256)
    (t : ℝ) (h : k0_pay117 a b s z (ix2 r c) = ((t : ℝ) : EReal)) : k0_pay122 a b s z (ix3 u r c) = (0 : EReal) := by
  unfold k0_pay122
  refine (shapeCast_ab_1ab_apply _ _ _ _ _).trans ?_
  show (k0_pay117 a b s z (ix2 r c) : EReal) - k0_pay117 a b s z (ix2 r c) = 0
  rw [h, coe_sub_self]
theorem pay123_apply (a : FVec Ideal S1152x256 .bf16) (b : FVec Ideal S256x256 .bf16) (s z : FVec Ideal S1152x256 .f32) (u : Fin 1) (r : Fin 1152) (c : Fin 256)
    (t : ℝ) (h : k0_pay117 a b s z (ix2 r c) = ((t : ℝ) : EReal)) : k0_pay123 a b s z (ix3 u r c) = (0 : EReal) := by
  unfold k0_pay123
  refine (shapeCast_ab_1ab_apply _ _ _ _ _).trans ?_
  show ((k0_pay117 a b s z (ix2 r c) : EReal) - k0_pay117 a b s z (ix2 r c)) - ((k0_pay117 a b s z (ix2 r c) : EReal) - k0_pay117 a b s z (ix2 r c)) = 0
  rw [h, coe_sub_self]; simp

end Cert.PropIdeal.Hand
-- ==== Proof.LoopValue.lean ====
module

public import proofs.«01_k».proof.Proof.Gen.PropIdeal.Loops
public import proofs.«01_k».proof.Proof.Limbs
public import Idealize.ShloMosaic.Lib.WritesUnit
public import Idealize.ShloMosaic.Lib.VecWindow
public import Idealize.ShloMosaic.Lib.Pipeline.ValueKit.Tiles

/-!
# The loops of the kernel, over the reals

The first loop leaves the block column of `u` in the first limb buffer and zeros in the other two, a
panel of rows a trip. The third loop takes one earlier panel's error off the residual a trip.
-/

@[expose] public section

set_option maxRecDepth 16384

noncomputable section

namespace Cert.PropIdeal.Hand

open Cert.PropIdeal Cert.PropIdeal.Gen Cert.Sem
open Idealize.ShloMosaic
open Idealize.ShloMosaic.TcCoe Idealize.ShloMosaic.ValueIdx
open scoped BigOperators

/-! ## Trip counts and offsets -/

theorem trips1 (i : grid0.Coords) : (k0_t1_loop i).trips = (i 0).val := by
  have key : ∀ a : Fin 16, (k0_t1_loop (fun | ⟨0, _⟩ => a)).trips = a.val := by decide +kernel
  exact key (i 0)
theorem trips2 (i : grid0.Coords) : (k0_t2_loop i).trips = 0 := by
  have key : ∀ a : Fin 16, (k0_t2_loop (fun | ⟨0, _⟩ => a)).trips = 0 := by decide +kernel
  exact key (i 0)
theorem trips3 (i : grid0.Coords) : (k0_t3_loop i).trips = (i 0).val := by
  have key : ∀ a : Fin 16, (k0_t3_loop (fun | ⟨0, _⟩ => a)).trips = a.val := by decide +kernel
  exact key (i 0)
theorem trips4 (i : grid0.Coords) : (k0_t4_loop i).trips = 0 := by
  have key : ∀ a : Fin 16, (k0_t4_loop (fun | ⟨0, _⟩ => a)).trips = 0 := by decide +kernel
  exact key (i 0)

theorem off1_eq (i : grid0.Coords) (k : Fin (k0_t1_loop i).trips) : k0_off1 i k = ![256 * k.val, 0] := by
  have key : ∀ n : Fin 16, (Scalar.indexCast (Scalar.muli (Scf.iv 0#32 1#32 n.val) 256#32)).toNat = 256 * n.val := by decide +kernel
  have hk : k.val < 16 := lt_of_lt_of_le k.isLt (by rw [trips1]; exact Nat.le_of_lt (i 0).isLt)
  exact congrArg (fun t => ![t, 0]) (key ⟨k.val, hk⟩)
theorem off3_eq (i : grid0.Coords) (k : Fin (k0_t3_loop i).trips) : k0_off3 i k = ![k.val, 0, 0] := by
  have key : ∀ n : Fin 16, (Scalar.indexCast (Scf.iv 0#32 1#32 n.val)).toNat = n.val := by decide +kernel
  have hk : k.val < 16 := lt_of_lt_of_le k.isLt (by rw [trips3]; exact Nat.le_of_lt (i 0).isLt)
  exact congrArg (fun t => ![t, 0, 0]) (key ⟨k.val, hk⟩)
theorem off4_eq (i : grid0.Coords) (k : Fin (k0_t3_loop i).trips) : k0_off4 i k = ![256 * k.val, 0] := by
  have key : ∀ n : Fin 16, (Scalar.indexCast (Scalar.muli (Scf.iv 0#32 1#32 n.val) 256#32)).toNat = 256 * n.val := by decide +kernel
  have hk : k.val < 16 := lt_of_lt_of_le k.isLt (by rw [trips3]; exact Nat.le_of_lt (i 0).isLt)
  exact congrArg (fun t => ![t, 0]) (key ⟨k.val, hk⟩)
theorem off7_eq (i : grid0.Coords) : k0_off7 i = ![(i 0).val, 0, 0] := by
  have key : ∀ a : Fin 16, k0_off7 (fun | ⟨0, _⟩ => a) = ![a.val, 0, 0] := by decide +kernel
  exact key (i 0)

/-- A load of a unit rectangle at an index reads the buffer at the offset index. -/
theorem readAt_at {s : Shape} {e : EltTy} (v : View sig .tc .vmem s e) (f : v.ty.Contents (Elt Ideal)) {off off' size : Fin s.rank → ℕ}
    (inb : ∀ a, off a + size a ≤ s.size a) (h : off = off') (x : (Rect.unit off size inb).shape.Idx) (y : s.Idx)
    (hy : ∀ a, (y a).val = off' a + (x a).val) :
    v.readAt (Elt Ideal) (Rect.unit off size inb).toLoadRect f x = v.read (Elt Ideal) f y := by
  subst h
  exact View.ld_unit_apply_of (v.read (Elt Ideal) f) off size inb x y hy

/-! ## The limb loop -/

variable (c : Dev nD) (i : grid0.Coords) (arg1 : Memref sig .tc .vmem S3x384x256 .bf16) (harg1 : arg1.IsWhole) (arg2 : Memref sig .tc .vmem S3x384x128 .i8) (harg2 : arg2.IsWhole) (arg3 : Memref sig .tc .vmem S3x2x4x256 .bf16) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S3x384x256 .bf16) (harg6 : arg6.IsWhole) (arg7 : Memref sig .tc .vmem S3x384x256 .f32) (harg7 : arg7.IsWhole) (arg8 : Memref sig .tc .vmem S16x1152x256 .bf16) (harg8 : arg8.IsWhole) (arg9 : Memref sig .tc .vmem S16x1152x256 .bf16) (harg9 : arg9.IsWhole) (arg10 : Memref sig .tc .vmem S16x1152x256 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x256 .f32) (harg14 : arg14.IsWhole)
variable (f4 : arg4.view.ty.Contents (Elt Ideal)) (f8 : arg8.view.ty.Contents (Elt Ideal)) (f9 : arg9.view.ty.Contents (Elt Ideal))
  (f10 : arg10.view.ty.Contents (Elt Ideal)) (f11 : arg11.view.ty.Contents (Elt Ideal)) (f12 : arg12.view.ty.Contents (Elt Ideal))
  (f13 : arg13.view.ty.Contents (Elt Ideal)) (g14 : arg14.view.ty.Contents (Elt Ideal))

/-- The three stores of a trip of the limb loop. -/
theorem tripL1_eq (k : Fin (k0_t1_loop i).trips) (acc : BitVec 32) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f4 k acc
      = ([⟨Rect.unit (s := S4096x256) (k0_off1 i k) S256x256.size (k0_off1_inb i k), k0_pay102 (View.readAt (Elt Ideal) arg4.view (Rect.unit (s := S4096x256) (k0_off1 i k) S256x256.size (k0_off1_inb i k)).toLoadRect f4)⟩],
         [⟨Rect.unit (s := S4096x256) (k0_off1 i k) S256x256.size (k0_off1_inb i k), k0_pay103 (View.readAt (Elt Ideal) arg4.view (Rect.unit (s := S4096x256) (k0_off1 i k) S256x256.size (k0_off1_inb i k)).toLoadRect f4)⟩],
         [⟨Rect.unit (s := S4096x256) (k0_off1 i k) S256x256.size (k0_off1_inb i k), k0_pay104 (View.readAt (Elt Ideal) arg4.view (Rect.unit (s := S4096x256) (k0_off1 i k) S256x256.size (k0_off1_inb i k)).toLoadRect f4)⟩]) := by
  unfold tripL_k0_t1 trip_k0_t1
  rfl

/-- The limb buffers after `K` trips: the rows of the first `K` panels are written. -/
theorem t1_read (U : S4096x256.Idx → ℝ) (hU : ∀ y, arg4.view.read (Elt Ideal) f4 y = ((U y : ℝ) : EReal)) :
    ∀ K : ℕ, K ≤ (k0_t1_loop i).trips → ∀ (p : Fin 4096) (l : Fin 256), p.val < 256 * K →
      arg11.view.read (Elt Ideal) (arg11.view.writes (Elt Ideal) f11 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f4 0#32 K).2.1) (ix2 p l) = ((U (ix2 p l) : ℝ) : EReal)
      ∧ arg12.view.read (Elt Ideal) (arg12.view.writes (Elt Ideal) f12 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f4 0#32 K).2.2.1) (ix2 p l) = (0 : EReal)
      ∧ arg13.view.read (Elt Ideal) (arg13.view.writes (Elt Ideal) f13 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f4 0#32 K).2.2.2) (ix2 p l) = (0 : EReal) := by
  intro K
  induction K with
  | zero => intro _ p l hp; omega
  | succ K ih =>
    intro hK p l hp
    have hs := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f4 0#32 ⟨K, hK⟩
    rw [tripL1_eq] at hs
    rw [show K + 1 = (⟨K, hK⟩ : Fin (k0_t1_loop i).trips).val + 1 from rfl, hs]
    simp only [List.singleton_append]
    have ho := off1_eq i ⟨K, hK⟩
    by_cases h : p.val < 256 * K
    · obtain ⟨h1, h2, h3⟩ := ih (by omega) p l h
      refine ⟨?_, ?_, ?_⟩
      · rw [View.read_writes_cons_unit_of_not_mem _ _ _ _ _ _ ho (0 : Fin 2) (Or.inl h)]; exact h1
      · rw [View.read_writes_cons_unit_of_not_mem _ _ _ _ _ _ ho (0 : Fin 2) (Or.inl h)]; exact h2
      · rw [View.read_writes_cons_unit_of_not_mem _ _ _ _ _ _ ho (0 : Fin 2) (Or.inl h)]; exact h3
    · have hx : ∀ a : Fin 2, ((ix2 p l : S4096x256.Idx) a).val = (![256 * K, 0] : Fin 2 → ℕ) a
          + ((ix2 (⟨p.val - 256 * K, by omega⟩ : Fin 256) l : S256x256.Idx) a).val := by
        intro a
        match a with
        | ⟨0, _⟩ => show p.val = 256 * K + (p.val - 256 * K); omega
        | ⟨1, _⟩ => show l.val = 0 + l.val; omega
      have hr : (View.readAt (Elt Ideal) arg4.view (Rect.unit (s := S4096x256) (k0_off1 i ⟨K, hK⟩) S256x256.size (k0_off1_inb i ⟨K, hK⟩)).toLoadRect f4) (ix2 (⟨p.val - 256 * K, by omega⟩ : Fin 256) l) = ((U (ix2 p l) : ℝ) : EReal) := by
        exact (readAt_at arg4.view f4 _ ho _ (ix2 p l) hx).trans (hU _)
      refine ⟨?_, ?_, ?_⟩
      · rw [View.read_writes_cons_unit_of_mem _ _ _ _ _ _ (ix2 (⟨p.val - 256 * K, by omega⟩ : Fin 256) l) ho hx, pay102_apply]; exact hr
      · rw [View.read_writes_cons_unit_of_mem _ _ _ _ _ _ (ix2 (⟨p.val - 256 * K, by omega⟩ : Fin 256) l) ho hx]; exact pay103_apply _ _ _ hr
      · rw [View.read_writes_cons_unit_of_mem _ _ _ _ _ _ (ix2 (⟨p.val - 256 * K, by omega⟩ : Fin 256) l) ho hx]; exact pay104_apply _ _ _ hr

/-! ## The residual's loop -/

/-- The store of a trip of the residual's loop. -/
theorem tripL3_eq (k : Fin (k0_t3_loop i).trips) (acc : BitVec 32) :
    tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f8 f9 f10 f11 f12 f13 k acc g14
      = [⟨Rect.unit (s := S1152x256) ![0, 0] S1152x256.size inb_S1152x256_S1152x256_0_0,
          k0_pay111 (View.readAt (Elt Ideal) arg14.view (Rect.unit (s := S1152x256) ![0, 0] S1152x256.size inb_S1152x256_S1152x256_0_0).toLoadRect g14)
            (View.readAt (Elt Ideal) arg8.view (Rect.unit (s := S16x1152x256) (k0_off3 i k) S1x1152x256.size (k0_off3_inb i k)).toLoadRect f8) (View.readAt (Elt Ideal) arg9.view (Rect.unit (s := S16x1152x256) (k0_off3 i k) S1x1152x256.size (k0_off3_inb i k)).toLoadRect f9) (View.readAt (Elt Ideal) arg10.view (Rect.unit (s := S16x1152x256) (k0_off3 i k) S1x1152x256.size (k0_off3_inb i k)).toLoadRect f10)
            (View.readAt (Elt Ideal) arg11.view (Rect.unit (s := S4096x256) (k0_off4 i k) S256x256.size (k0_off4_inb i k)).toLoadRect f11) (View.readAt (Elt Ideal) arg12.view (Rect.unit (s := S4096x256) (k0_off4 i k) S256x256.size (k0_off4_inb i k)).toLoadRect f12) (View.readAt (Elt Ideal) arg13.view (Rect.unit (s := S4096x256) (k0_off4 i k) S256x256.size (k0_off4_inb i k)).toLoadRect f13)⟩] := by
  unfold tripL_k0_t3 trip_k0_t3
  rfl

/-- The residual after `K` trips: the first `K` earlier panels taken off. -/
theorem t3_read (a0 : BitVec 32) (R : ℕ → Fin 1152 → Fin 256 → ℝ) (E : ℕ → Fin 1152 → Fin 256 → ℝ) (U : S4096x256.Idx → ℝ)
    (h8 : ∀ (k : Fin 16) (r : Fin 1152) (p : Fin 256), k.val < (k0_t3_loop i).trips → arg8.view.read (Elt Ideal) f8 (ix3 k r p) = ((E k.val r p : ℝ) : EReal))
    (h9 : ∀ (k : Fin 16) (r : Fin 1152) (p : Fin 256), k.val < (k0_t3_loop i).trips → arg9.view.read (Elt Ideal) f9 (ix3 k r p) = (0 : EReal))
    (h10 : ∀ (k : Fin 16) (r : Fin 1152) (p : Fin 256), k.val < (k0_t3_loop i).trips → arg10.view.read (Elt Ideal) f10 (ix3 k r p) = (0 : EReal))
    (h11 : ∀ (p : Fin 4096) (l : Fin 256), p.val < 256 * (k0_t3_loop i).trips → arg11.view.read (Elt Ideal) f11 (ix2 p l) = ((U (ix2 p l) : ℝ) : EReal))
    (h12 : ∀ (p : Fin 4096) (l : Fin 256), p.val < 256 * (k0_t3_loop i).trips → arg12.view.read (Elt Ideal) f12 (ix2 p l) = (0 : EReal))
    (h13 : ∀ (p : Fin 4096) (l : Fin 256), p.val < 256 * (k0_t3_loop i).trips → arg13.view.read (Elt Ideal) f13 (ix2 p l) = (0 : EReal))
    (h0 : ∀ (r : Fin 1152) (l : Fin 256), arg14.view.read (Elt Ideal) g14 (ix2 r l) = ((R 0 r l : ℝ) : EReal))
    (hR : ∀ (k : ℕ) (hk : k < 16) (r : Fin 1152) (l : Fin 256), R (k + 1) r l
      = R k r l - ∑ p : Fin 256, E k r p * U (ix2 (⟨256 * k + p.val, by have := p.isLt; omega⟩ : Fin 4096) l)) :
    ∀ K : ℕ, K ≤ (k0_t3_loop i).trips → ∀ (r : Fin 1152) (l : Fin 256),
      arg14.view.read (Elt Ideal) (arg14.view.writes (Elt Ideal) g14 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f8 f9 f10 f11 f12 f13 g14 a0 K).2) (ix2 r l) = ((R K r l : ℝ) : EReal) := by
  intro K
  induction K with
  | zero => intro _ r l; exact h0 r l
  | succ K ih =>
    intro hK r l
    have hK16 : K < 16 := lt_of_lt_of_le hK (by rw [trips3]; exact Nat.le_of_lt (i 0).isLt)
    have hs := st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) 0#32 f8 f9 f10 f11 f12 f13 g14 a0 ⟨K, hK⟩
    rw [tripL3_eq] at hs
    rw [show K + 1 = (⟨K, hK⟩ : Fin (k0_t3_loop i).trips).val + 1 from rfl, hs]
    simp only [List.singleton_append]
    rw [View.read_writes_cons_unit_of_mem _ _ _ _ _ _ (ix2 r l) rfl (fun a => by
      match a with
      | ⟨0, _⟩ => show r.val = 0 + r.val; omega
      | ⟨1, _⟩ => show l.val = 0 + l.val; omega)]
    have e3 : ∀ (v : View sig .tc .vmem S16x1152x256 .bf16) (f : v.ty.Contents (Elt Ideal)) (p : Fin 256),
        v.readAt (Elt Ideal) (Rect.unit (s := S16x1152x256) (k0_off3 i ⟨K, hK⟩) S1x1152x256.size (k0_off3_inb i ⟨K, hK⟩)).toLoadRect f (ix3 (0 : Fin 1) r p)
          = v.read (Elt Ideal) f (ix3 (⟨K, hK16⟩ : Fin 16) r p) := fun v f p => by
      refine readAt_at v f _ (off3_eq i ⟨K, hK⟩) _ _ fun a => ?_
      match a with
      | ⟨0, _⟩ => rfl
      | ⟨1, _⟩ => show r.val = 0 + r.val; omega
      | ⟨2, _⟩ => show p.val = 0 + p.val; omega
    have e4 : ∀ (v : View sig .tc .vmem S4096x256 .bf16) (f : v.ty.Contents (Elt Ideal)) (p : Fin 256),
        v.readAt (Elt Ideal) (Rect.unit (s := S4096x256) (k0_off4 i ⟨K, hK⟩) S256x256.size (k0_off4_inb i ⟨K, hK⟩)).toLoadRect f (ix2 p l)
          = v.read (Elt Ideal) f (ix2 (⟨256 * K + p.val, by have := p.isLt; omega⟩ : Fin 4096) l) := fun v f p => by
      refine readAt_at v f _ (off4_eq i ⟨K, hK⟩) _ _ fun a => ?_
      match a with
      | ⟨0, _⟩ => rfl
      | ⟨1, _⟩ => show l.val = 0 + l.val; omega
    have hlt : ∀ p : Fin 256, 256 * K + p.val < 256 * (k0_t3_loop i).trips := fun p => by have := p.isLt; omega
    have e14 : ∀ (v : View sig .tc .vmem S1152x256 .f32) (f : v.ty.Contents (Elt Ideal)),
        v.readAt (Elt Ideal) (Rect.unit (s := S1152x256) ![0, 0] S1152x256.size inb_S1152x256_S1152x256_0_0).toLoadRect f (ix2 r l)
          = v.read (Elt Ideal) f (ix2 r l) := fun v f => by
      refine readAt_at v f _ rfl _ _ fun a => ?_
      match a with
      | ⟨0, _⟩ => show r.val = 0 + r.val; omega
      | ⟨1, _⟩ => show l.val = 0 + l.val; omega
    refine (pay111_apply _ _ _ _ _ _ _ r l (R K r l) (E K r) (fun p => U (ix2 (⟨256 * K + p.val, by have := p.isLt; omega⟩ : Fin 4096) l))
      ((e14 _ _).trans (ih (by omega) r l))
      (fun p => (e3 _ _ p).trans (h8 ⟨K, hK16⟩ r p hK)) (fun p => (e3 _ _ p).trans (h9 ⟨K, hK16⟩ r p hK))
      (fun p => (e3 _ _ p).trans (h10 ⟨K, hK16⟩ r p hK)) (fun p => (e4 _ _ p).trans (h11 _ l (hlt p)))
      (fun p => (e4 _ _ p).trans (h12 _ l (hlt p))) (fun p => (e4 _ _ p).trans (h13 _ l (hlt p)))).trans ?_
    exact congrArg _ (hR K hK16 r l).symm

end Cert.PropIdeal.Hand
-- ==== Proof.Gather.lean ====
module

public import proofs.«01_k».proof.Proof.Gen.PropIdeal.Skeleton
public import proofs.«01_k».proof.Proof.Sem

/-!
# The codebook gather of the kernel, read at an index

The kernel looks each code up in two tables of 128 lanes, for each of the four positions in a codeword,
and picks one of the eight looked-up values by selects. `G` is that computation; `G_apply` is its value:
lane `l` of row `r` is the table's row `l % 4` at the code of group `l / 4`.
-/

@[expose] public section

set_option maxRecDepth 16384

noncomputable section

namespace Cert.PropIdeal.Hand

open Cert.PropIdeal Cert.PropIdeal.Gen
open Idealize.ShloMosaic Idealize.ShloMosaic.ValueIdx

/-- The gather, from the codes as words, the offset of the first group, and the table. -/
def G (v12 v40 : IVec S384x128 32) (v50 : Vec Ideal S1x1x4x256 .bf16) : FVec Ideal S384x128 .f32 :=
  k0_pay16 (k0_pay7 v12 k0_pay5 v40) (k0_pay8 v50) (k0_pay9 v12 k0_pay5 v40) k0_pay10
    (k0_pay13 (k0_pay8 v50) (k0_pay9 v12 k0_pay5 v40) k0_pay10 (k0_pay11 v12 k0_pay5 v40 v50) (k0_pay12 v50))
    (k0_pay14 (k0_pay8 v50)) (k0_pay15 (k0_pay9 v12 k0_pay5 v40))

theorem pay5_apply (r : Fin 384) (l : Fin 128) : k0_pay5 (ix2 r l) = BitVec.ofNat 32 (l.val / 4) := by
  have key : ∀ l : Fin 128, k0_pay5 (ix2 (0 : Fin 384) l) = BitVec.ofNat 32 (l.val / 4) := by decide +kernel
  exact (show k0_pay5 (ix2 r l) = k0_pay5 (ix2 (0 : Fin 384) l) from rfl).trans (key l)

theorem pay10_apply (r : Fin 384) (l : Fin 128) : k0_pay10 (ix2 r l) = BitVec.ofNat 32 (l.val % 4) := by
  have key : ∀ l : Fin 128, k0_pay10 (ix2 (0 : Fin 384) l) = BitVec.ofNat 32 (l.val % 4) := by decide +kernel
  exact (show k0_pay10 (ix2 r l) = k0_pay10 (ix2 (0 : Fin 384) l) from rfl).trans (key l)

theorem gather_apply {α : Type} (x : S384x128.Idx → α) (idx : IVec S384x128 32) (r : Fin 384) (l : Fin 128) (n : Fin 128)
    (h : (idx (ix2 r l)).toNat = n.val) : dynamicGather 1 x idx (ix2 r l) = x (ix2 r n) := by
  refine congrArg x (funext fun b => Fin.ext ?_)
  match b with
  | ⟨0, _⟩ => rfl
  | ⟨1, _⟩ =>
    show (idx (ix2 r l)).toNat % 128 = n.val
    rw [h, Nat.mod_eq_of_lt n.isLt]

theorem wrap_apply (x : IVec S384x128 32) (y : S384x128.Idx) :
    k0_pay15 x y = Scalar.select (IntOp.cmpi .slt (x y) 0#32) (IntOp.addi (x y) 128#32) (x y) := by
  unfold k0_pay15
  rw [shapeCast_shapeCast]
  rfl

theorem wrap_small : ∀ n : Fin 128, (Scalar.select (IntOp.cmpi .slt (BitVec.ofNat 32 n.val) 0#32)
    (IntOp.addi (BitVec.ofNat 32 n.val) 128#32) (BitVec.ofNat 32 n.val)).toNat = n.val := by decide +kernel

theorem row_apply (tab : FVec Ideal S4x256 .f32) (k o : ℕ) (hk : k < 4) (ho : o + 128 ≤ 256)
    (hs : S4x256.Slices ![k, o] S1x128) (r : Fin 384) (l : Fin 128) :
    broadcastTo S384x128 (shapeCast S1x128 (extractStridedSlice S1x128 ![k, o] tab hs) shapeCasts_S1x128_S1x128)
      broadcasts_S1x128_S384x128 (ix2 r l) = tab (ix2 (⟨k, hk⟩ : Fin 4) (⟨o + l.val, by have := l.isLt; omega⟩ : Fin 256)) := by
  rw [shapeCast_self]
  refine congrArg tab (funext fun b => Fin.ext ?_)
  match b with
  | ⟨0, _⟩ => rfl
  | ⟨1, _⟩ => rfl

/-- The group an output lane reads its code from. -/
theorem group_apply (v12 v40 : IVec S384x128 32) (o : ℕ) (ho : o + 32 ≤ 128) (hv : ∀ y, v40 y = BitVec.ofNat 32 o)
    (r : Fin 384) (l : Fin 128) :
    k0_pay7 v12 k0_pay5 v40 (ix2 r l) = v12 (ix2 r (⟨o + l.val / 4, by have := l.isLt; omega⟩ : Fin 128)) := by
  refine gather_apply v12 (k0_pay15 (addi k0_pay5 v40)) r l _ ?_
  have hl := l.isLt
  have e : (addi k0_pay5 v40) (ix2 r l) = BitVec.ofNat 32 (o + l.val / 4) := by
    show IntOp.addi (k0_pay5 (ix2 r l)) (v40 (ix2 r l)) = _
    rw [pay5_apply, hv]
    show BitVec.ofNat 32 (l.val / 4) + BitVec.ofNat 32 o = _
    rw [← BitVec.ofNat_add, Nat.add_comm]
  rw [wrap_apply, e]
  exact wrap_small ⟨o + l.val / 4, by omega⟩

/-- A table half looked up at the low seven bits of a code. -/
theorem look_apply (tab : FVec Ideal S4x256 .f32) (k o : ℕ) (hk : k < 4) (ho : o + 128 ≤ 256)
    (hs : S4x256.Slices ![k, o] S1x128) (c : IVec S384x128 32) (r : Fin 384) (l : Fin 128) (n : Fin 128)
    (hc : c (ix2 r l) = BitVec.ofNat 32 n.val) :
    dynamicGather 1 (broadcastTo S384x128 (shapeCast S1x128 (extractStridedSlice S1x128 ![k, o] tab hs) shapeCasts_S1x128_S1x128)
      broadcasts_S1x128_S384x128) (k0_pay15 c) (ix2 r l)
      = tab (ix2 (⟨k, hk⟩ : Fin 4) (⟨o + n.val, by have := n.isLt; omega⟩ : Fin 256)) := by
  rw [gather_apply _ _ r l n (by rw [wrap_apply, hc]; exact wrap_small n), row_apply tab k o hk ho hs]

/-- The low seven bits of a code. -/
theorem low_bits : ∀ n : Fin 256, BitVec.ofNat 32 n.val &&& 127#32 = BitVec.ofNat 32 (n.val % 128) := by decide +kernel
/-- Whether a code lies in the upper half. -/
theorem upper_bit : ∀ n : Fin 256, IntOp.cmpi .sge (BitVec.ofNat 32 n.val) 128#32 = if 128 ≤ n.val then 1#1 else 0#1 := by decide +kernel
/-- The selects over the position in a codeword. -/
theorem pick4 {α : Type} (f : ℕ → α) : ∀ k : Fin 4,
    Scalar.select (IntOp.cmpi .eq (BitVec.ofNat 32 k.val) 3#32) (f 3)
      (Scalar.select (IntOp.cmpi .eq (BitVec.ofNat 32 k.val) 2#32) (f 2)
        (Scalar.select (IntOp.cmpi .eq (BitVec.ofNat 32 k.val) 1#32) (f 1) (f 0))) = f k.val
  | ⟨0, _⟩ => rfl
  | ⟨1, _⟩ => rfl
  | ⟨2, _⟩ => rfl
  | ⟨3, _⟩ => rfl

/-- **The gather read at an index.** -/
theorem G_apply (v12 v40 : IVec S384x128 32) (v50 : Vec Ideal S1x1x4x256 .bf16) (o : ℕ) (ho : o + 32 ≤ 128)
    (hv : ∀ y, v40 y = BitVec.ofNat 32 o) (r : Fin 384) (l : Fin 128) (n : Fin 256)
    (hn : v12 (ix2 r (⟨o + l.val / 4, by have := l.isLt; omega⟩ : Fin 128)) = BitVec.ofNat 32 n.val) :
    G v12 v40 v50 (ix2 r l) = k0_pay8 v50 (ix2 (⟨l.val % 4, Nat.mod_lt _ (by decide)⟩ : Fin 4) n) := by
  have hg : k0_pay7 v12 k0_pay5 v40 (ix2 r l) = BitVec.ofNat 32 n.val := (group_apply v12 v40 o ho hv r l).trans hn
  have hl : k0_pay9 v12 k0_pay5 v40 (ix2 r l) = BitVec.ofNat 32 (n.val % 128) := by
    show k0_pay7 v12 k0_pay5 v40 (ix2 r l) &&& 127#32 = _
    rw [hg]; exact low_bits n
  have hk : k0_pay10 (ix2 r l) = BitVec.ofNat 32 (l.val % 4) := pay10_apply r l
  have L := fun k o hk ho hs => look_apply (k0_pay8 v50) k o hk ho hs (k0_pay9 v12 k0_pay5 v40) r l ⟨n.val % 128, Nat.mod_lt _ (by decide)⟩ hl
  have low : k0_pay13 (k0_pay8 v50) (k0_pay9 v12 k0_pay5 v40) k0_pay10 (k0_pay11 v12 k0_pay5 v40 v50) (k0_pay12 v50) (ix2 r l)
      = k0_pay8 v50 (ix2 (⟨l.val % 4, Nat.mod_lt _ (by decide)⟩ : Fin 4) (⟨0 + n.val % 128, by omega⟩ : Fin 256)) := by
    have e := pick4 (fun k => k0_pay8 v50 (ix2 (⟨k % 4, Nat.mod_lt _ (by decide)⟩ : Fin 4) (⟨0 + n.val % 128, by omega⟩ : Fin 256)))
      ⟨l.val % 4, Nat.mod_lt _ (by decide)⟩
    rw [show (⟨l.val % 4, Nat.mod_lt _ (by decide)⟩ : Fin 4) = ⟨l.val % 4 % 4, Nat.mod_lt _ (by decide)⟩ from Fin.ext (by simp)]
    refine Eq.trans ?_ e
    rw [← L 3 0 (by decide) (by decide) slices_S4x256_o3_0_S1x128, ← L 2 0 (by decide) (by decide) slices_S4x256_o2_0_S1x128,
      ← L 1 0 (by decide) (by decide) slices_S4x256_o1_0_S1x128, ← L 0 0 (by decide) (by decide) slices_S4x256_o0_0_S1x128, ← hk]
    rfl
  have high : ∀ z, k0_pay16 (k0_pay7 v12 k0_pay5 v40) (k0_pay8 v50) (k0_pay9 v12 k0_pay5 v40) k0_pay10 z
      (k0_pay14 (k0_pay8 v50)) (k0_pay15 (k0_pay9 v12 k0_pay5 v40)) (ix2 r l)
      = Scalar.select (IntOp.cmpi .sge (k0_pay7 v12 k0_pay5 v40 (ix2 r l)) 128#32)
        (k0_pay8 v50 (ix2 (⟨l.val % 4, Nat.mod_lt _ (by decide)⟩ : Fin 4) (⟨128 + n.val % 128, by omega⟩ : Fin 256))) (z (ix2 r l)) := by
    intro z
    have e := pick4 (fun k => k0_pay8 v50 (ix2 (⟨k % 4, Nat.mod_lt _ (by decide)⟩ : Fin 4) (⟨128 + n.val % 128, by omega⟩ : Fin 256)))
      ⟨l.val % 4, Nat.mod_lt _ (by decide)⟩
    rw [show (⟨l.val % 4, Nat.mod_lt _ (by decide)⟩ : Fin 4) = ⟨l.val % 4 % 4, Nat.mod_lt _ (by decide)⟩ from Fin.ext (by simp)]
    refine Eq.trans ?_ (congrArg (fun t => Scalar.select _ t _) e)
    rw [← L 3 128 (by decide) (by decide) slices_S4x256_o3_128_S1x128, ← L 2 128 (by decide) (by decide) slices_S4x256_o2_128_S1x128,
      ← L 1 128 (by decide) (by decide) slices_S4x256_o1_128_S1x128, ← L 0 128 (by decide) (by decide) slices_S4x256_o0_128_S1x128, ← hk]
    rfl
  unfold G
  rw [high, low, hg, upper_bit n]
  have hn := n.isLt
  by_cases h : 128 ≤ n.val
  · rw [if_pos h, select_one]
    exact congrArg (fun t => k0_pay8 v50 (ix2 _ t)) (Fin.ext (by show 128 + n.val % 128 = n.val; omega))
  · rw [if_neg h, select_zero]
    exact congrArg (fun t => k0_pay8 v50 (ix2 _ t)) (Fin.ext (by show 0 + n.val % 128 = n.val; omega))

/-- The table in floats is the codebook block. -/
theorem pay8_apply (v50 : Vec Ideal S1x1x4x256 .bf16) (k : Fin 4) (n : Fin 256) :
    k0_pay8 v50 (ix2 k n) = v50 (ix4 (0 : Fin 1) (0 : Fin 1) k n) := by
  unfold k0_pay8
  show shapeCast S4x256 v50 _ (ix2 k n) = _
  exact shapeCast_apply v50 _ _ _ (by
    rw [Shape.rowMajor_val_four, Shape.rowMajor_val_two]
    show ((0 * 1 + 0) * 4 + k.val) * 256 + n.val = k.val * 256 + n.val
    simp)

end Cert.PropIdeal.Hand
-- ==== Proof.GatherRun.lean ====
module

public import proofs.«01_k».proof.Proof.Gather
public import proofs.«01_k».proof.Proof.PropIdealBody

/-!
# The gather as the body stores it

Each of the six stores of `q`, and each of the six stores of the residual, carries the gather `G` of its own
code block, offset and table.
-/

@[expose] public section

set_option maxRecDepth 16384

noncomputable section

namespace Cert.PropIdeal.Hand

open Cert.PropIdeal Cert.PropIdeal.Gen
open Idealize.ShloMosaic Idealize.ShloMosaic.ValueIdx

/-- The first group of a half block, as the kernel computes it. -/
def offW (i : grid0.Coords) (h : BitVec 32) : BitVec 32 :=
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.addi (Scalar.muli v9 64#32) h

theorem offW_eq (i : grid0.Coords) (h : Fin 2) : offW i (BitVec.ofNat 32 (h.val * 32)) = BitVec.ofNat 32 ((i 0).val % 2 * 64 + h.val * 32) := by
  have key : ∀ a : Fin 16, ∀ h : Fin 2, offW (fun | ⟨0, _⟩ => a) (BitVec.ofNat 32 (h.val * 32)) = BitVec.ofNat 32 (a.val % 2 * 64 + h.val * 32) := by decide +kernel
  exact key (i 0) h

/-- What a store of `q` carries. -/
def qPay (v10 : Vec Ideal S1x384x128 .i8) (i : grid0.Coords) (h : BitVec 32) (v50 : Vec Ideal S1x1x4x256 .bf16) : FVec Ideal S1x384x128 .bf16 :=
  k0_pay18 (truncf .bf16 (G (k0_pay4 (F := Ideal) v10) (broadcast S384x128 (offW i h)) v50) bitsLt_bf16_f32)

/-- What a store of the residual carries. -/
def rPay (v10 : Vec Ideal S1x384x128 .i8) (i : grid0.Coords) (h : BitVec 32) (v50 : Vec Ideal S1x1x4x256 .bf16) (w : Vec Ideal S1x384x128 .bf16) : FVec Ideal S384x128 .f32 :=
  k0_pay19 (G (k0_pay4 (F := Ideal) v10) (broadcast S384x128 (offW i h)) v50) w

variable (i : grid0.Coords) (arg1 : Memref sig .tc .vmem S3x384x256 .bf16) (arg2 : Memref sig .tc .vmem S3x384x128 .i8)
  (arg3 : Memref sig .tc .vmem S3x2x4x256 .bf16) (f1 : arg1.view.ty.Contents (Elt Ideal)) (f2 : arg2.view.ty.Contents (Elt Ideal))
  (f3 : arg3.view.ty.Contents (Elt Ideal))

/-- The six stores of `q`. -/
theorem H6_eq : kernelRun.sl.H6_6 (F := Ideal) i arg2 arg3 f2 f3
    = [⟨Rect.unit ![2, 0, 128] S1x384x128.size inb_S3x384x256_S1x384x128_2_0_128, qPay (View.readAt (Elt Ideal) arg2.view (Rect.unit (s := S3x384x128) ![2, 0, 0] S1x384x128.size inb_S3x384x128_S1x384x128_2_0_0).toLoadRect f2) i 32#32 (View.readAt (Elt Ideal) arg3.view (Rect.unit (s := S3x2x4x256) ![2, 1, 0, 0] S1x1x4x256.size inb_S3x2x4x256_S1x1x4x256_2_1_0_0).toLoadRect f3)⟩,
      ⟨Rect.unit ![2, 0, 0] S1x384x128.size inb_S3x384x256_S1x384x128_2_0_0, qPay (View.readAt (Elt Ideal) arg2.view (Rect.unit (s := S3x384x128) ![2, 0, 0] S1x384x128.size inb_S3x384x128_S1x384x128_2_0_0).toLoadRect f2) i 0#32 (View.readAt (Elt Ideal) arg3.view (Rect.unit (s := S3x2x4x256) ![2, 0, 0, 0] S1x1x4x256.size inb_S3x2x4x256_S1x1x4x256_2_0_0_0).toLoadRect f3)⟩,
      ⟨Rect.unit ![1, 0, 128] S1x384x128.size inb_S3x384x256_S1x384x128_1_0_128, qPay (View.readAt (Elt Ideal) arg2.view (Rect.unit (s := S3x384x128) ![1, 0, 0] S1x384x128.size inb_S3x384x128_S1x384x128_1_0_0).toLoadRect f2) i 32#32 (View.readAt (Elt Ideal) arg3.view (Rect.unit (s := S3x2x4x256) ![1, 1, 0, 0] S1x1x4x256.size inb_S3x2x4x256_S1x1x4x256_1_1_0_0).toLoadRect f3)⟩,
      ⟨Rect.unit ![1, 0, 0] S1x384x128.size inb_S3x384x256_S1x384x128_1_0_0, qPay (View.readAt (Elt Ideal) arg2.view (Rect.unit (s := S3x384x128) ![1, 0, 0] S1x384x128.size inb_S3x384x128_S1x384x128_1_0_0).toLoadRect f2) i 0#32 (View.readAt (Elt Ideal) arg3.view (Rect.unit (s := S3x2x4x256) ![1, 0, 0, 0] S1x1x4x256.size inb_S3x2x4x256_S1x1x4x256_1_0_0_0).toLoadRect f3)⟩,
      ⟨Rect.unit ![0, 0, 128] S1x384x128.size inb_S3x384x256_S1x384x128_0_0_128, qPay (View.readAt (Elt Ideal) arg2.view (Rect.unit (s := S3x384x128) ![0, 0, 0] S1x384x128.size inb_S3x384x128_S1x384x128_0_0_0).toLoadRect f2) i 32#32 (View.readAt (Elt Ideal) arg3.view (Rect.unit (s := S3x2x4x256) ![0, 1, 0, 0] S1x1x4x256.size inb_S3x2x4x256_S1x1x4x256_0_1_0_0).toLoadRect f3)⟩,
      ⟨Rect.unit ![0, 0, 0] S1x384x128.size inb_S3x384x256_S1x384x128_0_0_0, qPay (View.readAt (Elt Ideal) arg2.view (Rect.unit (s := S3x384x128) ![0, 0, 0] S1x384x128.size inb_S3x384x128_S1x384x128_0_0_0).toLoadRect f2) i 0#32 (View.readAt (Elt Ideal) arg3.view (Rect.unit (s := S3x2x4x256) ![0, 0, 0, 0] S1x1x4x256.size inb_S3x2x4x256_S1x1x4x256_0_0_0_0).toLoadRect f3)⟩] := rfl

/-- The six stores of the residual. -/
theorem H14_eq : kernelRun.sl.H14_6 (F := Ideal) i arg1 arg2 arg3 f1 f2 f3
    = [⟨Rect.unit ![768, 128] S384x128.size inb_S1152x256_S384x128_768_128, rPay (View.readAt (Elt Ideal) arg2.view (Rect.unit (s := S3x384x128) ![2, 0, 0] S1x384x128.size inb_S3x384x128_S1x384x128_2_0_0).toLoadRect f2) i 32#32 (View.readAt (Elt Ideal) arg3.view (Rect.unit (s := S3x2x4x256) ![2, 1, 0, 0] S1x1x4x256.size inb_S3x2x4x256_S1x1x4x256_2_1_0_0).toLoadRect f3) (View.readAt (Elt Ideal) arg1.view (Rect.unit (s := S3x384x256) ![2, 0, 128] S1x384x128.size inb_S3x384x256_S1x384x128_2_0_128).toLoadRect f1)⟩,
      ⟨Rect.unit ![768, 0] S384x128.size inb_S1152x256_S384x128_768_0, rPay (View.readAt (Elt Ideal) arg2.view (Rect.unit (s := S3x384x128) ![2, 0, 0] S1x384x128.size inb_S3x384x128_S1x384x128_2_0_0).toLoadRect f2) i 0#32 (View.readAt (Elt Ideal) arg3.view (Rect.unit (s := S3x2x4x256) ![2, 0, 0, 0] S1x1x4x256.size inb_S3x2x4x256_S1x1x4x256_2_0_0_0).toLoadRect f3) (View.readAt (Elt Ideal) arg1.view (Rect.unit (s := S3x384x256) ![2, 0, 0] S1x384x128.size inb_S3x384x256_S1x384x128_2_0_0).toLoadRect f1)⟩,
      ⟨Rect.unit ![384, 128] S384x128.size inb_S1152x256_S384x128_384_128, rPay (View.readAt (Elt Ideal) arg2.view (Rect.unit (s := S3x384x128) ![1, 0, 0] S1x384x128.size inb_S3x384x128_S1x384x128_1_0_0).toLoadRect f2) i 32#32 (View.readAt (Elt Ideal) arg3.view (Rect.unit (s := S3x2x4x256) ![1, 1, 0, 0] S1x1x4x256.size inb_S3x2x4x256_S1x1x4x256_1_1_0_0).toLoadRect f3) (View.readAt (Elt Ideal) arg1.view (Rect.unit (s := S3x384x256) ![1, 0, 128] S1x384x128.size inb_S3x384x256_S1x384x128_1_0_128).toLoadRect f1)⟩,
      ⟨Rect.unit ![384, 0] S384x128.size inb_S1152x256_S384x128_384_0, rPay (View.readAt (Elt Ideal) arg2.view (Rect.unit (s := S3x384x128) ![1, 0, 0] S1x384x128.size inb_S3x384x128_S1x384x128_1_0_0).toLoadRect f2) i 0#32 (View.readAt (Elt Ideal) arg3.view (Rect.unit (s := S3x2x4x256) ![1, 0, 0, 0] S1x1x4x256.size inb_S3x2x4x256_S1x1x4x256_1_0_0_0).toLoadRect f3) (View.readAt (Elt Ideal) arg1.view (Rect.unit (s := S3x384x256) ![1, 0, 0] S1x384x128.size inb_S3x384x256_S1x384x128_1_0_0).toLoadRect f1)⟩,
      ⟨Rect.unit ![0, 128] S384x128.size inb_S1152x256_S384x128_0_128, rPay (View.readAt (Elt Ideal) arg2.view (Rect.unit (s := S3x384x128) ![0, 0, 0] S1x384x128.size inb_S3x384x128_S1x384x128_0_0_0).toLoadRect f2) i 32#32 (View.readAt (Elt Ideal) arg3.view (Rect.unit (s := S3x2x4x256) ![0, 1, 0, 0] S1x1x4x256.size inb_S3x2x4x256_S1x1x4x256_0_1_0_0).toLoadRect f3) (View.readAt (Elt Ideal) arg1.view (Rect.unit (s := S3x384x256) ![0, 0, 128] S1x384x128.size inb_S3x384x256_S1x384x128_0_0_128).toLoadRect f1)⟩,
      ⟨Rect.unit ![0, 0] S384x128.size inb_S1152x256_S384x128_0_0, rPay (View.readAt (Elt Ideal) arg2.view (Rect.unit (s := S3x384x128) ![0, 0, 0] S1x384x128.size inb_S3x384x128_S1x384x128_0_0_0).toLoadRect f2) i 0#32 (View.readAt (Elt Ideal) arg3.view (Rect.unit (s := S3x2x4x256) ![0, 0, 0, 0] S1x1x4x256.size inb_S3x2x4x256_S1x1x4x256_0_0_0_0).toLoadRect f3) (View.readAt (Elt Ideal) arg1.view (Rect.unit (s := S3x384x256) ![0, 0, 0] S1x384x128.size inb_S3x384x256_S1x384x128_0_0_0).toLoadRect f1)⟩] := rfl

/-- A half block's position, as a word. -/
theorem word8_eq (c : BitVec 8) : BitVec.setWidth 32 c = BitVec.ofNat 32 (⟨c.toNat, c.isLt⟩ : Fin 256).val := by
  apply BitVec.eq_of_toNat_eq
  simp

/-- The block of `q` at a grid point, of the code block and the table blocks. -/
def qBlk (i : grid0.Coords) (X2 : S3x384x128.Idx → BitVec 8) (X3 : S3x2x4x256.Idx → EReal) (y : S3x384x256.Idx) : EReal :=
  X3 (ix4 (⟨(y 0).val, (y 0).isLt⟩ : Fin 3) (⟨(y 2).val / 128, by have := (y 2).isLt; change (y 2).val < 256 at this; omega⟩ : Fin 2)
    (⟨(y 2).val % 4, Nat.mod_lt _ (by decide)⟩ : Fin 4)
    (⟨(X2 (ix3 (⟨(y 0).val, (y 0).isLt⟩ : Fin 3) (⟨(y 1).val, (y 1).isLt⟩ : Fin 384)
      (⟨(i 0).val % 2 * 64 + (y 2).val / 4, by have := (y 2).isLt; change (y 2).val < 256 at this; omega⟩ : Fin 128))).toNat, BitVec.isLt _⟩ : Fin 256))

/-- The gather of one half block of one matrix, read at an index. -/
theorem G_read (m h : ℕ) (hm : m < 3) (hh : h < 2) (inbc : ∀ a, (![m, 0, 0] : Fin 3 → ℕ) a + S1x384x128.size a ≤ S3x384x128.size a)
    (inbt : ∀ a, (![m, h, 0, 0] : Fin 4 → ℕ) a + S1x1x4x256.size a ≤ S3x2x4x256.size a) (r : Fin 384) (l : Fin 128) :
    G (k0_pay4 (F := Ideal) (View.readAt (Elt Ideal) arg2.view (Rect.unit (s := S3x384x128) ![m, 0, 0] S1x384x128.size inbc).toLoadRect f2))
      (broadcast S384x128 (offW i (BitVec.ofNat 32 (h * 32))))
      (View.readAt (Elt Ideal) arg3.view (Rect.unit (s := S3x2x4x256) ![m, h, 0, 0] S1x1x4x256.size inbt).toLoadRect f3) (ix2 r l)
      = qBlk i (arg2.view.read (Elt Ideal) f2) (arg3.view.read (Elt Ideal) f3)
        (ix3 (⟨m, hm⟩ : Fin 3) r (⟨128 * h + l.val, by have := l.isLt; omega⟩ : Fin 256)) := by
  have hl := l.isLt
  have hi := (i 0).isLt
  have e : (k0_pay4 (F := Ideal) (View.readAt (Elt Ideal) arg2.view (Rect.unit (s := S3x384x128) ![m, 0, 0] S1x384x128.size inbc).toLoadRect f2))
      (ix2 r (⟨((i 0).val % 2 * 64 + h * 32) + l.val / 4, by omega⟩ : Fin 128))
      = BitVec.setWidth 32 (arg2.view.read (Elt Ideal) f2 (ix3 (⟨m, hm⟩ : Fin 3) r (⟨(i 0).val % 2 * 64 + (128 * h + l.val) / 4, by omega⟩ : Fin 128))) := by
    unfold k0_pay4
    rw [extui_apply]
    refine congrArg (BitVec.setWidth 32) ?_
    refine (shapeCast_1ab_ab_apply _ _ _ _).trans ?_
    rw [View.readAt_eq_ld]
    refine congrArg (arg2.view.read (Elt Ideal) f2) (funext fun a => Fin.ext ?_)
    match a with
    | ⟨0, _⟩ => show m + 1 * 0 = m; omega
    | ⟨1, _⟩ => show 0 + 1 * r.val = r.val; omega
    | ⟨2, _⟩ => show 0 + 1 * ((i 0).val % 2 * 64 + h * 32 + l.val / 4) = (i 0).val % 2 * 64 + (128 * h + l.val) / 4; omega
  rw [word8_eq] at e
  rw [G_apply _ (broadcast S384x128 (offW i (BitVec.ofNat 32 (h * 32)))) _ ((i 0).val % 2 * 64 + h * 32) (by omega) (fun y => offW_eq i ⟨h, hh⟩) r l _ e, pay8_apply, View.readAt_eq_ld]
  refine congrArg (arg3.view.read (Elt Ideal) f3) (funext fun a => Fin.ext ?_)
  match a with
  | ⟨0, _⟩ => show m + 1 * 0 = m; omega
  | ⟨1, _⟩ => show h + 1 * 0 = (128 * h + l.val) / 128; omega
  | ⟨2, _⟩ => show 0 + 1 * (l.val % 4) = (128 * h + l.val) % 4; omega
  | ⟨3, _⟩ => show 0 + 1 * (BitVec.toNat _) = BitVec.toNat _; rw [Nat.zero_add, Nat.one_mul]

/-- A store of `q` carries the block of `q` at its rectangle. -/
theorem qPiece (m h : ℕ) (hm : m < 3) (hh : h < 2) (inbc : ∀ a, (![m, 0, 0] : Fin 3 → ℕ) a + S1x384x128.size a ≤ S3x384x128.size a)
    (inbt : ∀ a, (![m, h, 0, 0] : Fin 4 → ℕ) a + S1x1x4x256.size a ≤ S3x2x4x256.size a)
    (inbq : ∀ a, (![m, 0, 128 * h] : Fin 3 → ℕ) a + S1x384x128.size a ≤ S3x384x256.size a) (x : S1x384x128.Idx) :
    qPay (View.readAt (Elt Ideal) arg2.view (Rect.unit (s := S3x384x128) ![m, 0, 0] S1x384x128.size inbc).toLoadRect f2) i (BitVec.ofNat 32 (h * 32))
      (View.readAt (Elt Ideal) arg3.view (Rect.unit (s := S3x2x4x256) ![m, h, 0, 0] S1x1x4x256.size inbt).toLoadRect f3) x
      = qBlk i (arg2.view.read (Elt Ideal) f2) (arg3.view.read (Elt Ideal) f3)
        ((Rect.unit (s := S3x384x256) ![m, 0, 128 * h] S1x384x128.size inbq).emb x) := by
  obtain ⟨u, r, l, rfl⟩ : ∃ (u : Fin 1) (r : Fin 384) (l : Fin 128), x = ix3 u r l := ⟨x 0, x 1, x 2, eq_ix3 x⟩
  unfold qPay k0_pay18
  refine (shapeCast_ab_1ab_apply _ _ _ _ _).trans ?_
  refine (G_read i arg2 arg3 f2 f3 m h hm hh inbc inbt r l).trans ?_
  refine congrArg (qBlk i _ _) (funext fun a => Fin.ext ?_)
  match a with
  | ⟨0, _⟩ => show m = m + 1 * u.val; omega
  | ⟨1, _⟩ => show r.val = 0 + 1 * r.val; omega
  | ⟨2, _⟩ => show 128 * h + l.val = 128 * h + 1 * l.val; omega

/-- A store of the residual carries the weights less the block of `q` at its rectangle. -/
theorem rPiece (m h : ℕ) (hm : m < 3) (hh : h < 2) (inbc : ∀ a, (![m, 0, 0] : Fin 3 → ℕ) a + S1x384x128.size a ≤ S3x384x128.size a)
    (inbt : ∀ a, (![m, h, 0, 0] : Fin 4 → ℕ) a + S1x1x4x256.size a ≤ S3x2x4x256.size a)
    (inbq : ∀ a, (![m, 0, 128 * h] : Fin 3 → ℕ) a + S1x384x128.size a ≤ S3x384x256.size a) (x : S384x128.Idx) :
    rPay (View.readAt (Elt Ideal) arg2.view (Rect.unit (s := S3x384x128) ![m, 0, 0] S1x384x128.size inbc).toLoadRect f2) i (BitVec.ofNat 32 (h * 32))
      (View.readAt (Elt Ideal) arg3.view (Rect.unit (s := S3x2x4x256) ![m, h, 0, 0] S1x1x4x256.size inbt).toLoadRect f3)
      (View.readAt (Elt Ideal) arg1.view (Rect.unit (s := S3x384x256) ![m, 0, 128 * h] S1x384x128.size inbq).toLoadRect f1) x
      = arg1.view.read (Elt Ideal) f1 (ix3 (⟨m, hm⟩ : Fin 3) (x 0) (⟨128 * h + (x 1).val, by have : (x 1).val < 128 := (x 1).isLt; omega⟩ : Fin 256))
        - qBlk i (arg2.view.read (Elt Ideal) f2) (arg3.view.read (Elt Ideal) f3)
          (ix3 (⟨m, hm⟩ : Fin 3) (x 0) (⟨128 * h + (x 1).val, by have : (x 1).val < 128 := (x 1).isLt; omega⟩ : Fin 256)) := by
  obtain ⟨r, l, rfl⟩ : ∃ (r : Fin 384) (l : Fin 128), x = ix2 r l := ⟨x 0, x 1, eq_ix2 x⟩
  unfold rPay k0_pay19
  rw [shapeCast_self]
  refine congrArg₂ (fun a b : EReal => a - b) ?_ (G_read i arg2 arg3 f2 f3 m h hm hh inbc inbt r l)
  refine (extf_apply (φ := .bf16) (ψ := .f32) _ bitsLt_bf16_f32 _).trans ((shapeCast_1ab_ab_apply _ _ _ _).trans ?_)
  rw [View.readAt_eq_ld]
  refine congrArg (arg1.view.read (Elt Ideal) f1) (funext fun a => Fin.ext ?_)
  match a with
  | ⟨0, _⟩ => show m + 1 * 0 = m; omega
  | ⟨1, _⟩ => show 0 + 1 * r.val = r.val; omega
  | ⟨2, _⟩ => show 128 * h + 1 * l.val = 128 * h + l.val; omega

/-- **The block of `q` the body leaves.** -/
theorem q_read (arg6 : Memref sig .tc .vmem S3x384x256 .bf16) (f6 : arg6.view.ty.Contents (Elt Ideal)) (y : S3x384x256.Idx) :
    arg6.view.read (Elt Ideal) (arg6.view.writes (Elt Ideal) f6 (kernelRun.sl.H6_6 (F := Ideal) i arg2 arg3 f2 f3)) y
      = qBlk i (arg2.view.read (Elt Ideal) f2) (arg3.view.read (Elt Ideal) f3) y := by
  rw [H6_eq]
  refine View.read_writes_apply_of_pieces _ _ _ _ ?_ y ?_
  · intro p hp
    simp only [List.mem_cons, List.not_mem_nil, or_false] at hp
    rcases hp with rfl | rfl | rfl | rfl | rfl | rfl
    · exact fun x => qPiece i arg2 arg3 f2 f3 2 1 (by decide) (by decide) inb_S3x384x128_S1x384x128_2_0_0 inb_S3x2x4x256_S1x1x4x256_2_1_0_0 inb_S3x384x256_S1x384x128_2_0_128 x
    · exact fun x => qPiece i arg2 arg3 f2 f3 2 0 (by decide) (by decide) inb_S3x384x128_S1x384x128_2_0_0 inb_S3x2x4x256_S1x1x4x256_2_0_0_0 inb_S3x384x256_S1x384x128_2_0_0 x
    · exact fun x => qPiece i arg2 arg3 f2 f3 1 1 (by decide) (by decide) inb_S3x384x128_S1x384x128_1_0_0 inb_S3x2x4x256_S1x1x4x256_1_1_0_0 inb_S3x384x256_S1x384x128_1_0_128 x
    · exact fun x => qPiece i arg2 arg3 f2 f3 1 0 (by decide) (by decide) inb_S3x384x128_S1x384x128_1_0_0 inb_S3x2x4x256_S1x1x4x256_1_0_0_0 inb_S3x384x256_S1x384x128_1_0_0 x
    · exact fun x => qPiece i arg2 arg3 f2 f3 0 1 (by decide) (by decide) inb_S3x384x128_S1x384x128_0_0_0 inb_S3x2x4x256_S1x1x4x256_0_1_0_0 inb_S3x384x256_S1x384x128_0_0_128 x
    · exact fun x => qPiece i arg2 arg3 f2 f3 0 0 (by decide) (by decide) inb_S3x384x128_S1x384x128_0_0_0 inb_S3x2x4x256_S1x1x4x256_0_0_0_0 inb_S3x384x256_S1x384x128_0_0_0 x
  · have h0 : (y 0).val < 3 := (y 0).isLt
    have h1 : (y 1).val < 384 := (y 1).isLt
    have h2 : (y 2).val < 256 := (y 2).isLt
    simp only [List.exists_mem_cons_iff, Rect.mem_set_unit, Fin.forall_fin_succ, Fin.forall_fin_zero_pi]
    simp
    omega

/-- The residual the body starts from, at a row and a lane. -/
def r0Blk (i : grid0.Coords) (X1 : S3x384x256.Idx → EReal) (X2 : S3x384x128.Idx → BitVec 8) (X3 : S3x2x4x256.Idx → EReal) (y : S1152x256.Idx) : EReal :=
  X1 (ix3 (⟨(y 0).val / 384, by have : (y 0).val < 1152 := (y 0).isLt; omega⟩ : Fin 3) (⟨(y 0).val % 384, Nat.mod_lt _ (by decide)⟩ : Fin 384) (y 1))
    - qBlk i X2 X3 (ix3 (⟨(y 0).val / 384, by have : (y 0).val < 1152 := (y 0).isLt; omega⟩ : Fin 3) (⟨(y 0).val % 384, Nat.mod_lt _ (by decide)⟩ : Fin 384) (y 1))

/-- A store of the residual, at its rectangle of the residual's buffer. -/
theorem rPiece' (m h : ℕ) (hm : m < 3) (hh : h < 2) (inbc : ∀ a, (![m, 0, 0] : Fin 3 → ℕ) a + S1x384x128.size a ≤ S3x384x128.size a)
    (inbt : ∀ a, (![m, h, 0, 0] : Fin 4 → ℕ) a + S1x1x4x256.size a ≤ S3x2x4x256.size a)
    (inbq : ∀ a, (![m, 0, 128 * h] : Fin 3 → ℕ) a + S1x384x128.size a ≤ S3x384x256.size a)
    (inbr : ∀ a, (![384 * m, 128 * h] : Fin 2 → ℕ) a + S384x128.size a ≤ S1152x256.size a) (x : S384x128.Idx) :
    rPay (View.readAt (Elt Ideal) arg2.view (Rect.unit (s := S3x384x128) ![m, 0, 0] S1x384x128.size inbc).toLoadRect f2) i (BitVec.ofNat 32 (h * 32))
      (View.readAt (Elt Ideal) arg3.view (Rect.unit (s := S3x2x4x256) ![m, h, 0, 0] S1x1x4x256.size inbt).toLoadRect f3)
      (View.readAt (Elt Ideal) arg1.view (Rect.unit (s := S3x384x256) ![m, 0, 128 * h] S1x384x128.size inbq).toLoadRect f1) x
      = r0Blk i (arg1.view.read (Elt Ideal) f1) (arg2.view.read (Elt Ideal) f2) (arg3.view.read (Elt Ideal) f3)
        ((Rect.unit (s := S1152x256) ![384 * m, 128 * h] S384x128.size inbr).emb x) := by
  rw [rPiece i arg1 arg2 arg3 f1 f2 f3 m h hm hh inbc inbt inbq x]
  have hx0 : (x 0).val < 384 := (x 0).isLt
  have e : (ix3 (⟨m, hm⟩ : Fin 3) (x 0) (⟨128 * h + (x 1).val, by have : (x 1).val < 128 := (x 1).isLt; omega⟩ : Fin 256) : S3x384x256.Idx)
      = ix3 (⟨((Rect.unit (s := S1152x256) ![384 * m, 128 * h] S384x128.size inbr).emb x 0).val / 384, by
          have : ((Rect.unit (s := S1152x256) ![384 * m, 128 * h] S384x128.size inbr).emb x 0).val < 1152 := Fin.isLt _
          omega⟩ : Fin 3)
        (⟨((Rect.unit (s := S1152x256) ![384 * m, 128 * h] S384x128.size inbr).emb x 0).val % 384, Nat.mod_lt _ (by decide)⟩ : Fin 384)
        ((Rect.unit (s := S1152x256) ![384 * m, 128 * h] S384x128.size inbr).emb x 1) := by
    funext a
    apply Fin.ext
    match a with
    | ⟨0, _⟩ => show m = (384 * m + 1 * (x 0).val) / 384; omega
    | ⟨1, _⟩ => show (x 0).val = (384 * m + 1 * (x 0).val) % 384; omega
    | ⟨2, _⟩ => show 128 * h + (x 1).val = 128 * h + 1 * (x 1).val; omega
  rw [e]
  rfl

/-- **The residual the body starts from.** -/
theorem r0_read (arg14 : Memref sig .tc .vmem S1152x256 .f32) (f14 : arg14.view.ty.Contents (Elt Ideal)) (y : S1152x256.Idx) :
    arg14.view.read (Elt Ideal) (arg14.view.writes (Elt Ideal) f14 (kernelRun.sl.H14_6 (F := Ideal) i arg1 arg2 arg3 f1 f2 f3)) y
      = r0Blk i (arg1.view.read (Elt Ideal) f1) (arg2.view.read (Elt Ideal) f2) (arg3.view.read (Elt Ideal) f3) y := by
  rw [H14_eq]
  refine View.read_writes_apply_of_pieces _ _ _ _ ?_ y ?_
  · intro p hp
    simp only [List.mem_cons, List.not_mem_nil, or_false] at hp
    rcases hp with rfl | rfl | rfl | rfl | rfl | rfl
    · exact fun x => rPiece' i arg1 arg2 arg3 f1 f2 f3 2 1 (by decide) (by decide) inb_S3x384x128_S1x384x128_2_0_0 inb_S3x2x4x256_S1x1x4x256_2_1_0_0 inb_S3x384x256_S1x384x128_2_0_128
        inb_S1152x256_S384x128_768_128 x
    · exact fun x => rPiece' i arg1 arg2 arg3 f1 f2 f3 2 0 (by decide) (by decide) inb_S3x384x128_S1x384x128_2_0_0 inb_S3x2x4x256_S1x1x4x256_2_0_0_0 inb_S3x384x256_S1x384x128_2_0_0
        inb_S1152x256_S384x128_768_0 x
    · exact fun x => rPiece' i arg1 arg2 arg3 f1 f2 f3 1 1 (by decide) (by decide) inb_S3x384x128_S1x384x128_1_0_0 inb_S3x2x4x256_S1x1x4x256_1_1_0_0 inb_S3x384x256_S1x384x128_1_0_128
        inb_S1152x256_S384x128_384_128 x
    · exact fun x => rPiece' i arg1 arg2 arg3 f1 f2 f3 1 0 (by decide) (by decide) inb_S3x384x128_S1x384x128_1_0_0 inb_S3x2x4x256_S1x1x4x256_1_0_0_0 inb_S3x384x256_S1x384x128_1_0_0
        inb_S1152x256_S384x128_384_0 x
    · exact fun x => rPiece' i arg1 arg2 arg3 f1 f2 f3 0 1 (by decide) (by decide) inb_S3x384x128_S1x384x128_0_0_0 inb_S3x2x4x256_S1x1x4x256_0_1_0_0 inb_S3x384x256_S1x384x128_0_0_128
        inb_S1152x256_S384x128_0_128 x
    · exact fun x => rPiece' i arg1 arg2 arg3 f1 f2 f3 0 0 (by decide) (by decide) inb_S3x384x128_S1x384x128_0_0_0 inb_S3x2x4x256_S1x1x4x256_0_0_0_0 inb_S3x384x256_S1x384x128_0_0_0
        inb_S1152x256_S384x128_0_0 x
  · have h0 : (y 0).val < 1152 := (y 0).isLt
    have h1 : (y 1).val < 256 := (y 1).isLt
    simp only [List.exists_mem_cons_iff, Rect.mem_set_unit, Fin.forall_fin_succ, Fin.forall_fin_zero_pi]
    simp
    omega

end Cert.PropIdeal.Hand
-- ==== Proof.BodyValue.lean ====
module

public import proofs.«01_k».proof.Proof.LoopValue
public import proofs.«01_k».proof.Proof.GatherRun

/-!
# The kernel body's stores, over the reals
-/

@[expose] public section

set_option maxRecDepth 16384

noncomputable section

namespace Cert.PropIdeal.Hand

open Cert.PropIdeal Cert.PropIdeal.Gen Cert.Sem
open Idealize.ShloMosaic
open Idealize.ShloMosaic.TcCoe Idealize.ShloMosaic.ValueIdx
open scoped BigOperators

variable (c : Dev nD) (i : grid0.Coords) (arg1 : Memref sig .tc .vmem S3x384x256 .bf16) (harg1 : arg1.IsWhole) (arg2 : Memref sig .tc .vmem S3x384x128 .i8) (harg2 : arg2.IsWhole) (arg3 : Memref sig .tc .vmem S3x2x4x256 .bf16) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S3x384x256 .bf16) (harg6 : arg6.IsWhole) (arg7 : Memref sig .tc .vmem S3x384x256 .f32) (harg7 : arg7.IsWhole) (arg8 : Memref sig .tc .vmem S16x1152x256 .bf16) (harg8 : arg8.IsWhole) (arg9 : Memref sig .tc .vmem S16x1152x256 .bf16) (harg9 : arg9.IsWhole) (arg10 : Memref sig .tc .vmem S16x1152x256 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x256 .f32) (harg14 : arg14.IsWhole)
variable (f1 : arg1.view.ty.Contents (Elt Ideal)) (f2 : arg2.view.ty.Contents (Elt Ideal)) (f3 : arg3.view.ty.Contents (Elt Ideal))
  (f4 : arg4.view.ty.Contents (Elt Ideal)) (f5 : arg5.view.ty.Contents (Elt Ideal)) (f8 : arg8.view.ty.Contents (Elt Ideal)) (f9 : arg9.view.ty.Contents (Elt Ideal))
  (f10 : arg10.view.ty.Contents (Elt Ideal)) (f11 : arg11.view.ty.Contents (Elt Ideal)) (f12 : arg12.view.ty.Contents (Elt Ideal))
  (f13 : arg13.view.ty.Contents (Elt Ideal)) (f14 : arg14.view.ty.Contents (Elt Ideal))

/-- The residual the last product reads: the panel's own columns with every earlier panel's error taken off. -/
theorem v1107_apply (R : ℕ → Fin 1152 → Fin 256 → ℝ) (E : ℕ → Fin 1152 → Fin 256 → ℝ) (U : S4096x256.Idx → ℝ)
    (hU : ∀ y, arg4.view.read (Elt Ideal) f4 y = ((U y : ℝ) : EReal))
    (h8 : ∀ (k : Fin 16) (r : Fin 1152) (p : Fin 256), k.val < (i 0).val → arg8.view.read (Elt Ideal) f8 (ix3 k r p) = ((E k.val r p : ℝ) : EReal))
    (h9 : ∀ (k : Fin 16) (r : Fin 1152) (p : Fin 256), k.val < (i 0).val → arg9.view.read (Elt Ideal) f9 (ix3 k r p) = (0 : EReal))
    (h10 : ∀ (k : Fin 16) (r : Fin 1152) (p : Fin 256), k.val < (i 0).val → arg10.view.read (Elt Ideal) f10 (ix3 k r p) = (0 : EReal))
    (h0 : ∀ (r : Fin 1152) (l : Fin 256), r0Blk i (arg1.view.read (Elt Ideal) f1) (arg2.view.read (Elt Ideal) f2) (arg3.view.read (Elt Ideal) f3) (ix2 r l) = ((R 0 r l : ℝ) : EReal))
    (hR : ∀ (k : ℕ) (hk : k < 16) (r : Fin 1152) (l : Fin 256), R (k + 1) r l
      = R k r l - ∑ p : Fin 256, E k r p * U (ix2 (⟨256 * k + p.val, by have := p.isLt; omega⟩ : Fin 4096) l))
    (r : Fin 1152) (l : Fin 256) :
    kernelRun.sl.v1107 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f8 f9 f10 f11 f12 f13 (ix2 r l) = ((R (i 0).val r l : ℝ) : EReal) := by
  unfold kernelRun.sl.v1107
  rw [show Scf.trips (k0_t4_loop i).lb (k0_t4_loop i).ub (k0_t4_loop i).st = 0 from trips4 i]
  simp only [st_k0_t2.eq_1, st_k0_t4.eq_1, List.nil_append]
  refine (readAt_at _ _ _ rfl _ (ix2 r l) (fun a => by
    match a with
    | ⟨0, _⟩ => show r.val = 0 + r.val; omega
    | ⟨1, _⟩ => show l.val = 0 + l.val; omega)).trans ?_
  rw [View.writes_append]
  have ht := t1_read c i arg1 harg1 arg2 harg2 arg3 harg3 arg4 harg4 arg5 harg5 arg6 harg6 arg7 harg7 arg8 harg8 arg9 harg9 arg10 harg10 arg11 harg11 arg12 harg12 arg13 harg13 arg14 harg14 f4 f11 f12 f13 U hU (k0_t1_loop i).trips le_rfl
  refine (t3_read c i arg1 harg1 arg2 harg2 arg3 harg3 arg4 harg4 arg5 harg5 arg6 harg6 arg7 harg7 arg8 harg8 arg9 harg9 arg10 harg10 arg11 harg11 arg12 harg12 arg13 harg13 arg14 harg14 f8 f9 f10 _ _ _ _ _ R E U ?_ ?_ ?_ ?_ ?_ ?_ ?_ hR (k0_t3_loop i).trips le_rfl r l).trans ?_
  · intro k r p hk; exact h8 k r p (by rwa [trips3] at hk)
  · intro k r p hk; exact h9 k r p (by rwa [trips3] at hk)
  · intro k r p hk; exact h10 k r p (by rwa [trips3] at hk)
  · intro p l hp; exact (ht p l (by rw [trips1]; rwa [trips3] at hp)).1
  · intro p l hp; exact (ht p l (by rw [trips1]; rwa [trips3] at hp)).2.1
  · intro p l hp; exact (ht p l (by rw [trips1]; rwa [trips3] at hp)).2.2
  · intro r l; exact (r0_read i arg1 arg2 arg3 f1 f2 f3 arg14 _ (ix2 r l)).trans (h0 r l)
  · rw [trips3]

/-- The product with the panel's inverse. -/
theorem r44_apply (P : Fin 1152 → Fin 256 → ℝ) (W : Fin 256 → Fin 256 → ℝ) (r : Fin 1152) (j : Fin 256)
    (hx : ∀ l, kernelRun.sl.v1107 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f8 f9 f10 f11 f12 f13 (ix2 r l) = ((P r l : ℝ) : EReal))
    (hW : ∀ l j, arg5.view.read (Elt Ideal) f5 (ix3 (0 : Fin 1) l j) = ((W l j : ℝ) : EReal)) :
    kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 r j)
      = ((∑ l : Fin 256, P r l * W l j : ℝ) : EReal) :=
  pay117_apply _ _ r j (P r) (fun l => W l j) hx (fun l => (readAt_at _ _ _ rfl _ (ix3 (0 : Fin 1) l j) (fun a => by
    match a with
    | ⟨0, _⟩ => rfl
    | ⟨1, _⟩ => show l.val = 0 + l.val; omega
    | ⟨2, _⟩ => show j.val = 0 + j.val; omega)).trans (hW l j))

/-- The three stores of the error block, read back. -/
theorem e_pieces (f7 : arg7.view.ty.Contents (Elt Ideal)) (z : FVec Ideal S1152x256 .f32) (z0 : FVec Ideal S384x256 .f32)
    (hz0 : ∀ (r : Fin 384) (j : Fin 256), z0 (ix2 r j) = z (ix2 (⟨r.val, by have := r.isLt; omega⟩ : Fin 1152) j)) (m : Fin 3) (r : Fin 384) (j : Fin 256) :
    arg7.view.read (Elt Ideal) (arg7.view.writes (Elt Ideal) f7
      [⟨Rect.unit (s := S3x384x256) ![2, 0, 0] S1x384x256.size inb_S3x384x256_S1x384x256_2_0_0, k0_pay3 z⟩,
       ⟨Rect.unit (s := S3x384x256) ![1, 0, 0] S1x384x256.size inb_S3x384x256_S1x384x256_1_0_0, k0_pay2 z⟩,
       ⟨Rect.unit (s := S3x384x256) ![0, 0, 0] S1x384x256.size inb_S3x384x256_S1x384x256_0_0_0, k0_pay1 z0⟩]) (ix3 m r j)
      = z (ix2 (⟨384 * m.val + r.val, by have := m.isLt; have := r.isLt; omega⟩ : Fin 1152) j) := by
  have hin : ∀ (n : ℕ) (hn : m.val = n) (a : Fin 3), ((ix3 m r j : S3x384x256.Idx) a).val = (![n, 0, 0] : Fin 3 → ℕ) a
      + ((ix3 (0 : Fin 1) r j : S1x384x256.Idx) a).val := by
    intro n hn a
    match a with
    | ⟨0, _⟩ => show m.val = n + 0; omega
    | ⟨1, _⟩ => show r.val = 0 + r.val; omega
    | ⟨2, _⟩ => show j.val = 0 + j.val; omega
  rcases (by have := m.isLt; omega : m.val = 2 ∨ m.val = 1 ∨ m.val = 0) with h | h | h
  · rw [View.read_writes_cons_unit_of_mem _ _ _ _ _ _ (ix3 (0 : Fin 1) r j) rfl (hin 2 h)]
    unfold k0_pay3
    refine (shapeCast_ab_1ab_apply _ _ _ _ _).trans ?_
    refine congrArg z (funext fun a => Fin.ext ?_)
    match a with
    | ⟨0, _⟩ => show 768 + r.val = 384 * m.val + r.val; omega
    | ⟨1, _⟩ => show 0 + j.val = j.val; omega
  · rw [View.read_writes_cons_unit_of_not_mem _ _ _ _ _ _ rfl (0 : Fin 3) (Or.inl (show m.val < 2 by omega)),
      View.read_writes_cons_unit_of_mem _ _ _ _ _ _ (ix3 (0 : Fin 1) r j) rfl (hin 1 h)]
    unfold k0_pay2
    refine (shapeCast_ab_1ab_apply _ _ _ _ _).trans ?_
    refine congrArg z (funext fun a => Fin.ext ?_)
    match a with
    | ⟨0, _⟩ => show 384 + r.val = 384 * m.val + r.val; omega
    | ⟨1, _⟩ => show 0 + j.val = j.val; omega
  · rw [View.read_writes_cons_unit_of_not_mem _ _ _ _ _ _ rfl (0 : Fin 3) (Or.inl (show m.val < 2 by omega)),
      View.read_writes_cons_unit_of_not_mem _ _ _ _ _ _ rfl (0 : Fin 3) (Or.inl (show m.val < 1 by omega)),
      View.read_writes_cons_unit_of_mem _ _ _ _ _ _ (ix3 (0 : Fin 1) r j) rfl (hin 0 h)]
    unfold k0_pay1
    refine (shapeCast_ab_1ab_apply _ _ _ _ _).trans ?_
    rw [hz0]
    refine congrArg z (funext fun a => Fin.ext ?_)
    match a with
    | ⟨0, _⟩ => show r.val = 384 * m.val + r.val; omega
    | ⟨1, _⟩ => rfl

/-- The error block the body stores. -/
theorem e_read (f7 : arg7.view.ty.Contents (Elt Ideal)) (m : Fin 3) (r : Fin 384) (j : Fin 256) :
    arg7.view.read (Elt Ideal) (arg7.view.writes (Elt Ideal) f7 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.1) (ix3 m r j)
      = kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 (⟨384 * m.val + r.val, by have := m.isLt; have := r.isLt; omega⟩ : Fin 1152) j) :=
  e_pieces arg7 f7 (kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13)
    (kernelRun.sl.r_45 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13)
    (fun r j => congrArg (kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13) (funext fun a => Fin.ext (by
      match a with
      | ⟨0, _⟩ => show 0 + r.val = r.val; omega
      | ⟨1, _⟩ => show 0 + j.val = j.val; omega))) m r j

/-- Argument 8 after the body: the panel's own slab is stored, the earlier ones stay. -/
theorem limb8_read (P : Fin 1152 → Fin 256 → ℝ) (E : ℕ → Fin 1152 → Fin 256 → ℝ)
    (hP : ∀ r j, kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 r j) = ((P r j : ℝ) : EReal))
    (hE : ∀ (k : Fin 16) (r : Fin 1152) (j : Fin 256), k.val < (i 0).val → arg8.view.read (Elt Ideal) f8 (ix3 k r j) = ((E k.val r j : ℝ) : EReal))
    (hPE : ∀ r j, E (i 0).val r j = P r j) (k : Fin 16) (r : Fin 1152) (j : Fin 256) (hk : k.val < (i 0).val + 1) :
    arg8.view.read (Elt Ideal) (arg8.view.writes (Elt Ideal) f8 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.2.1) (ix3 k r j)
      = ((E k.val r j : ℝ) : EReal) := by
  rw [show (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.2.1
    = [⟨Rect.unit (s := S16x1152x256) (k0_off7 i) S1x1152x256.size (k0_off7_inb i), k0_pay121 (kernelRun.sl.r_41 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f8 f9 f10 f11 f12 f13) (kernelRun.sl.r_42 arg5 f5) (kernelRun.sl.r_43 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13) kernelRun.sl.cst_337⟩] from rfl]
  by_cases h : k.val = (i 0).val
  · rw [View.read_writes_cons_unit_of_mem _ _ _ _ _ _ (ix3 (0 : Fin 1) r j) (off7_eq i) (fun a => by
      match a with
      | ⟨0, _⟩ => show k.val = (i 0).val + 0; omega
      | ⟨1, _⟩ => show r.val = 0 + r.val; omega
      | ⟨2, _⟩ => show j.val = 0 + j.val; omega)]
    rw [h, hPE]
    exact (pay121_apply _ _ _ _ (0 : Fin 1) r j).trans (hP r j)
  · rw [View.read_writes_cons_unit_of_not_mem _ _ _ _ _ _ (off7_eq i) (0 : Fin 3) (Or.inl (show k.val < (i 0).val by omega))]
    exact hE k r j (by omega)

/-- Argument 9 after the body: the panel's own slab is stored, the earlier ones stay. -/
theorem limb9_read (P : Fin 1152 → Fin 256 → ℝ) (E : ℕ → Fin 1152 → Fin 256 → ℝ)
    (hP : ∀ r j, kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 r j) = ((P r j : ℝ) : EReal))
    (hE : ∀ (k : Fin 16) (r : Fin 1152) (j : Fin 256), k.val < (i 0).val → arg9.view.read (Elt Ideal) f9 (ix3 k r j) = (0 : EReal))
    (hPE : ∀ r j, E (i 0).val r j = P r j) (k : Fin 16) (r : Fin 1152) (j : Fin 256) (hk : k.val < (i 0).val + 1) :
    arg9.view.read (Elt Ideal) (arg9.view.writes (Elt Ideal) f9 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.2.2.1) (ix3 k r j)
      = (0 : EReal) := by
  rw [show (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.2.2.1
    = [⟨Rect.unit (s := S16x1152x256) (k0_off7 i) S1x1152x256.size (k0_off7_inb i), k0_pay122 (kernelRun.sl.r_41 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f8 f9 f10 f11 f12 f13) (kernelRun.sl.r_42 arg5 f5) (kernelRun.sl.r_43 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13) kernelRun.sl.cst_337⟩] from rfl]
  by_cases h : k.val = (i 0).val
  · rw [View.read_writes_cons_unit_of_mem _ _ _ _ _ _ (ix3 (0 : Fin 1) r j) (off7_eq i) (fun a => by
      match a with
      | ⟨0, _⟩ => show k.val = (i 0).val + 0; omega
      | ⟨1, _⟩ => show r.val = 0 + r.val; omega
      | ⟨2, _⟩ => show j.val = 0 + j.val; omega)]
    skip
    exact pay122_apply _ _ _ _ (0 : Fin 1) r j (P r j) (hP r j)
  · rw [View.read_writes_cons_unit_of_not_mem _ _ _ _ _ _ (off7_eq i) (0 : Fin 3) (Or.inl (show k.val < (i 0).val by omega))]
    exact hE k r j (by omega)

/-- Argument 10 after the body: the panel's own slab is stored, the earlier ones stay. -/
theorem limb10_read (P : Fin 1152 → Fin 256 → ℝ) (E : ℕ → Fin 1152 → Fin 256 → ℝ)
    (hP : ∀ r j, kernelRun.sl.r_44 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 r j) = ((P r j : ℝ) : EReal))
    (hE : ∀ (k : Fin 16) (r : Fin 1152) (j : Fin 256), k.val < (i 0).val → arg10.view.read (Elt Ideal) f10 (ix3 k r j) = (0 : EReal))
    (hPE : ∀ r j, E (i 0).val r j = P r j) (k : Fin 16) (r : Fin 1152) (j : Fin 256) (hk : k.val < (i 0).val + 1) :
    arg10.view.read (Elt Ideal) (arg10.view.writes (Elt Ideal) f10 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.2.2.2.1) (ix3 k r j)
      = (0 : EReal) := by
  rw [show (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.2.2.2.1
    = [⟨Rect.unit (s := S16x1152x256) (k0_off7 i) S1x1152x256.size (k0_off7_inb i), k0_pay123 (kernelRun.sl.r_41 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f8 f9 f10 f11 f12 f13) (kernelRun.sl.r_42 arg5 f5) (kernelRun.sl.r_43 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13) kernelRun.sl.cst_337⟩] from rfl]
  by_cases h : k.val = (i 0).val
  · rw [View.read_writes_cons_unit_of_mem _ _ _ _ _ _ (ix3 (0 : Fin 1) r j) (off7_eq i) (fun a => by
      match a with
      | ⟨0, _⟩ => show k.val = (i 0).val + 0; omega
      | ⟨1, _⟩ => show r.val = 0 + r.val; omega
      | ⟨2, _⟩ => show j.val = 0 + j.val; omega)]
    skip
    exact pay123_apply _ _ _ _ (0 : Fin 1) r j (P r j) (hP r j)
  · rw [View.read_writes_cons_unit_of_not_mem _ _ _ _ _ _ (off7_eq i) (0 : Fin 3) (Or.inl (show k.val < (i 0).val by omega))]
    exact hE k r j (by omega)

end Cert.PropIdeal.Hand
-- ==== Proof.Spec.lean ====
module

public import proofs.«01_k».proof.Proof.Sem

/-!
# What both programs compute

Over the reals: the weights' rounding `qV`, read from the codebook at the codes, and the error `eV`, panel by panel. A
matrix `a`'s row `r` is row `384 a + r` of the stacked residual.
-/

@[expose] public section

noncomputable section

namespace Cert.Sem

open Idealize.ShloMosaic Idealize.ShloMosaic.ValueIdx
open scoped BigOperators

/-- The indices of the weights and of both results. -/
abbrev IW := (⟨3, ![3, 384, 4096]⟩ : Shape).Idx
/-- The indices of the codes. -/
abbrev IC := (⟨3, ![3, 384, 1024]⟩ : Shape).Idx
/-- The indices of the codebook. -/
abbrev IK := (⟨4, ![3, 32, 256, 4]⟩ : Shape).Idx
/-- The indices of `u`. -/
abbrev IU := (⟨2, ![4096, 4096]⟩ : Shape).Idx
/-- The indices of the panels' inverses. -/
abbrev IV := (⟨3, ![16, 256, 256]⟩ : Shape).Idx

variable (W : IW → EReal) (C : IC → BitVec 8) (K : IK → EReal) (U : IU → EReal) (X : IV → EReal)

/-- The codebook read at the code of a column's group of four. -/
def qAt (a : Fin 3) (r : Fin 384) (j : Fin 4096) : EReal :=
  K (ix4 a (⟨j.val / 128, by have := j.isLt; omega⟩ : Fin 32)
    (⟨(C (ix3 a r (⟨j.val / 4, by have := j.isLt; omega⟩ : Fin 1024))).toNat, BitVec.isLt _⟩ : Fin 256)
    (⟨j.val % 4, Nat.mod_lt _ (by decide)⟩ : Fin 4))

/-- The first result. -/
def qV (y : IW) : EReal := qAt C K (y 0) (y 1) (y 2)

/-- The index of stacked row `i` and column `j`. -/
def rc (i j : ℕ) : IW := ix3 (Fin.ofNat 3 (i / 384)) (Fin.ofNat 384 (i % 384)) (Fin.ofNat 4096 j)

/-- The residual before any panel's error is taken off. -/
def r0V (i j : ℕ) : ℝ := (W (rc i j)).toReal - (qV C K (rc i j)).toReal
/-- `u` as reals. -/
def uV (a b : ℕ) : ℝ := (U (ix2 (Fin.ofNat 4096 a) (Fin.ofNat 4096 b))).toReal
/-- The inverses as reals. -/
def vV (k l j : ℕ) : ℝ := (X (ix3 (Fin.ofNat 16 k) (Fin.ofNat 256 l) (Fin.ofNat 256 j))).toReal

/-- The error of panel `b`. -/
def pV (b i j : ℕ) : ℝ := panel (r0V W C K) (uV U) (vV X) b i j

/-- The second result. -/
def eV (y : IW) : EReal := ((pV W C K U X ((y 2).val / 256) (384 * (y 0).val + (y 1).val) ((y 2).val % 256) : ℝ) : EReal)

/-- No infinity among the floating-point arguments. -/
structure AllReal : Prop where
  w : ∀ y, W y = (((W y).toReal : ℝ) : EReal)
  k : ∀ y, K y = (((K y).toReal : ℝ) : EReal)
  u : ∀ y, U y = (((U y).toReal : ℝ) : EReal)
  x : ∀ y, X y = (((X y).toReal : ℝ) : EReal)

variable {W C K U X}

theorem ofNat_val {n : ℕ} [NeZero n] (a : Fin n) : Fin.ofNat n a.val = a := Fin.ext (Nat.mod_eq_of_lt a.isLt)

theorem rc_stack (a : Fin 3) (r : Fin 384) (j : Fin 4096) : rc (384 * a.val + r.val) j.val = ix3 a r j := by
  unfold rc
  have h0 : Fin.ofNat 3 ((384 * a.val + r.val) / 384) = a := Fin.ext (show (384 * a.val + r.val) / 384 % 3 = a.val by
    have := a.isLt; have := r.isLt; omega)
  have h1 : Fin.ofNat 384 ((384 * a.val + r.val) % 384) = r := Fin.ext (show (384 * a.val + r.val) % 384 % 384 = r.val by
    have := a.isLt; have := r.isLt; omega)
  rw [h0, h1, ofNat_val]

theorem AllReal.q (h : AllReal W K U X) (y : IW) : qV C K y = (((qV C K y).toReal : ℝ) : EReal) := h.k _

theorem AllReal.r0 (h : AllReal W K U X) (i j : ℕ) : W (rc i j) - qV C K (rc i j) = ((r0V W C K i j : ℝ) : EReal) := by
  unfold r0V
  rw [EReal.coe_sub, ← h.w, ← h.q]

theorem AllReal.u_eq (h : AllReal W K U X) (a b : Fin 4096) : U (ix2 a b) = ((uV U a.val b.val : ℝ) : EReal) := by
  unfold uV
  rw [ofNat_val, ofNat_val]; exact h.u _

theorem AllReal.v_eq (h : AllReal W K U X) (k : Fin 16) (l j : Fin 256) : X (ix3 k l j) = ((vV X k.val l.val j.val : ℝ) : EReal) := by
  unfold vV
  rw [ofNat_val, ofNat_val, ofNat_val]; exact h.x _

end Cert.Sem
-- ==== Proof.PointValue.lean ====
module

public import proofs.«01_k».proof.Proof.Blocks
public import proofs.«01_k».proof.Proof.BodyValue
public import proofs.«01_k».proof.Proof.Spec

/-!
# What a grid point leaves, in terms of the arguments
-/

@[expose] public section

set_option maxRecDepth 16384

noncomputable section

namespace Cert.PropIdeal.Hand

open Cert.PropIdeal Cert.PropIdeal.Gen Cert.Sem
open Idealize.ShloMosaic
open Idealize.ShloMosaic.TcCoe Idealize.ShloMosaic.ValueIdx
open scoped BigOperators

variable (m : (ℓ : Loc nD τ sig) → Buf (Elt Ideal) ℓ)

/-- The weights. -/
abbrev aW (c : Dev nD) : IW → EReal := m ((c : Thread nD τ).loc main_arg0)
/-- The codes. -/
abbrev aC (c : Dev nD) : IC → BitVec 8 := m ((c : Thread nD τ).loc main_arg1)
/-- The codebook. -/
abbrev aK (c : Dev nD) : IK → EReal := m ((c : Thread nD τ).loc main_arg2)
/-- The upper factor. -/
abbrev aU (c : Dev nD) : IU → EReal := m ((c : Thread nD τ).loc main_arg3)
/-- The panels' inverses. -/
abbrev aX (c : Dev nD) : IV → EReal := m ((c : Thread nD τ).loc main_arg4)

/-- The first result's array. -/
def qArr (c : Dev nD) : IW → EReal := qV (aC m c) (aK m c)
/-- The second result's array. -/
def eArr (c : Dev nD) : IW → EReal := eV (aW m c) (aC m c) (aK m c) (aU m c) (aX m c)
/-- The error of panel `k`, at a stacked row and a column of the panel. -/
def pP (c : Dev nD) (k : ℕ) (r : Fin 1152) (p : Fin 256) : ℝ := pV (aW m c) (aC m c) (aK m c) (aU m c) (aX m c) k r.val p.val

theorem qBlk_eq (c : Dev nD) (t : Fin cfg0.N) (a : Fin 3) (r : Fin 384) (l : Fin 256) :
    qBlk (grid0.coords t) (iblk m c 1 t) (iblk m c 2 t) (ix3 a r l) = qArr m c (ix3 a r (col t l)) := by
  have hi := coords_val t
  have ht := lt16 t
  have hl := l.isLt
  have hc : iblk m c 1 t (ix3 a r (⟨((grid0.coords t) 0).val % 2 * 64 + l.val / 4, by omega⟩ : Fin 128))
      = aC m c (ix3 a r (⟨(col t l).val / 4, by have := (col t l).isLt; omega⟩ : Fin 1024)) := by
    rw [rd1, V_main_arg1]
    refine congrArg (aC m c) (congrArg (ix3 a r) (Fin.ext ?_))
    show 128 * (t.val / 2) + (((grid0.coords t) 0).val % 2 * 64 + l.val / 4) = (256 * t.val + l.val) / 4
    omega
  refine (rd2 m c t a _ _ _).trans ((V_v0 m c a _ _ _).trans ?_)
  refine congrArg (aK m c) (funext fun d => Fin.ext ?_)
  match d with
  | ⟨0, _⟩ => rfl
  | ⟨1, _⟩ => show 2 * t.val + l.val / 128 = (256 * t.val + l.val) / 128; omega
  | ⟨2, _⟩ => exact congrArg BitVec.toNat hc
  | ⟨3, _⟩ => show l.val % 4 = (256 * t.val + l.val) % 4; omega

variable {m}
variable {c : Dev nD}

theorem r0Blk_eq (h : AllReal (aW m c) (aK m c) (aU m c) (aX m c)) (t : Fin cfg0.N) (r : Fin 1152) (l : Fin 256) :
    r0Blk (grid0.coords t) (iblk m c 0 t) (iblk m c 1 t) (iblk m c 2 t) (ix2 r l)
      = ((r0V (aW m c) (aC m c) (aK m c) r.val (256 * t.val + l.val) : ℝ) : EReal) := by
  have hr := r.isLt
  have e : rc r.val (256 * t.val + l.val)
      = ix3 (⟨r.val / 384, by omega⟩ : Fin 3) (⟨r.val % 384, Nat.mod_lt _ (by decide)⟩ : Fin 384) (col t l) := by
    rw [← rc_stack]
    refine congrArg (fun i => rc i (256 * t.val + l.val)) ?_
    show r.val = 384 * (r.val / 384) + r.val % 384
    omega
  rw [← h.r0, e]
  have e1 := rd0 m c t (⟨r.val / 384, by omega⟩ : Fin 3) (⟨r.val % 384, Nat.mod_lt _ (by decide)⟩ : Fin 384) l
  rw [V_main_arg0] at e1
  exact congrArg₂ (fun x y : EReal => x - y) e1 (qBlk_eq m c t _ _ l)

theorem panel_idx (t : Fin cfg0.N) (l : Fin 256) : (col t l).val / 256 = t.val ∧ (col t l).val % 256 = l.val := by
  have := l.isLt
  constructor
  · show (256 * t.val + l.val) / 256 = t.val; omega
  · show (256 * t.val + l.val) % 256 = l.val; omega

variable (arg1 : Memref sig .tc .vmem S3x384x256 .bf16) (harg1 : arg1.IsWhole) (arg2 : Memref sig .tc .vmem S3x384x128 .i8) (harg2 : arg2.IsWhole) (arg3 : Memref sig .tc .vmem S3x2x4x256 .bf16) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S3x384x256 .bf16) (harg6 : arg6.IsWhole) (arg7 : Memref sig .tc .vmem S3x384x256 .f32) (harg7 : arg7.IsWhole) (arg8 : Memref sig .tc .vmem S16x1152x256 .bf16) (harg8 : arg8.IsWhole) (arg9 : Memref sig .tc .vmem S16x1152x256 .bf16) (harg9 : arg9.IsWhole) (arg10 : Memref sig .tc .vmem S16x1152x256 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x256 .f32) (harg14 : arg14.IsWhole)
variable (f1 : arg1.view.ty.Contents (Elt Ideal)) (f2 : arg2.view.ty.Contents (Elt Ideal)) (f3 : arg3.view.ty.Contents (Elt Ideal))
  (f4 : arg4.view.ty.Contents (Elt Ideal)) (f5 : arg5.view.ty.Contents (Elt Ideal)) (f8 : arg8.view.ty.Contents (Elt Ideal)) (f9 : arg9.view.ty.Contents (Elt Ideal))
  (f10 : arg10.view.ty.Contents (Elt Ideal)) (f11 : arg11.view.ty.Contents (Elt Ideal)) (f12 : arg12.view.ty.Contents (Elt Ideal))
  (f13 : arg13.view.ty.Contents (Elt Ideal)) (f14 : arg14.view.ty.Contents (Elt Ideal))

/-- The rounded weights' block. -/
theorem body_q (t : Fin cfg0.N) (f6 : arg6.view.ty.Contents (Elt Ideal)) (h2 : arg2.view.read (Elt Ideal) f2 = iblk m c 1 t) (h3 : arg3.view.read (Elt Ideal) f3 = iblk m c 2 t) :
    arg6.view.read (Elt Ideal) (arg6.view.writes (Elt Ideal) f6 (kernelRun (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).1)
      = ((cfg0.win 5).blk t).view.read (Elt Ideal) (qArr m c) := by
  funext y
  obtain ⟨a, r, l, rfl⟩ : ∃ (a : Fin 3) (r : Fin 384) (l : Fin 256), y = ix3 a r l := ⟨y 0, y 1, y 2, eq_ix3 y⟩
  refine (q_read (grid0.coords t) arg2 arg3 f2 f3 arg6 f6 (ix3 a r l)).trans ?_
  rw [h2, h3, qBlk_eq]
  exact (rd5 c t (qArr m c) a r l).symm

/-- The product the body forms is the panel's error. -/
theorem body_p (h : AllReal (aW m c) (aK m c) (aU m c) (aX m c)) (t : Fin cfg0.N)
    (h1 : arg1.view.read (Elt Ideal) f1 = iblk m c 0 t) (h2 : arg2.view.read (Elt Ideal) f2 = iblk m c 1 t) (h3 : arg3.view.read (Elt Ideal) f3 = iblk m c 2 t)
    (h4 : arg4.view.read (Elt Ideal) f4 = iblk m c 3 t) (h5 : arg5.view.read (Elt Ideal) f5 = iblk m c 4 t)
    (h8 : ∀ (k : Fin 16) (r : Fin 1152) (p : Fin 256), k.val < t.val → arg8.view.read (Elt Ideal) f8 (ix3 k r p) = ((pP m c k.val r p : ℝ) : EReal))
    (h9 : ∀ (k : Fin 16) (r : Fin 1152) (p : Fin 256), k.val < t.val → arg9.view.read (Elt Ideal) f9 (ix3 k r p) = (0 : EReal))
    (h10 : ∀ (k : Fin 16) (r : Fin 1152) (p : Fin 256), k.val < t.val → arg10.view.read (Elt Ideal) f10 (ix3 k r p) = (0 : EReal))
    (r : Fin 1152) (j : Fin 256) :
    kernelRun.sl.r_44 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 r j) = ((pP m c t.val r j : ℝ) : EReal) := by
  have ht := coords_val t
  refine (r44_apply c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13
    (fun r l => rest (r0V (aW m c) (aC m c) (aK m c)) (uV (aU m c)) (vV (aX m c)) t.val t.val r.val l.val)
    (fun l j => vV (aX m c) t.val l.val j.val) r j (fun l => ?_) (fun l j => ?_)).trans ?_
  · refine (v1107_apply c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f8 f9 f10 f11 f12 f13
      (fun k r l => rest (r0V (aW m c) (aC m c) (aK m c)) (uV (aU m c)) (vV (aX m c)) t.val k r.val l.val)
      (pP m c) (fun y => uV (aU m c) (y 0).val (256 * t.val + (y 1).val)) ?_ ?_ ?_ ?_ ?_ ?_ r l).trans ?_
    · intro y
      obtain ⟨p, l, rfl⟩ : ∃ (p : Fin 4096) (l : Fin 256), y = ix2 p l := ⟨y 0, y 1, eq_ix2 y⟩
      rw [h4, rd3, V_main_arg3]
      exact h.u_eq p (col t l)
    · intro k r p hk; exact h8 k r p (by omega)
    · intro k r p hk; exact h9 k r p (by omega)
    · intro k r p hk; exact h10 k r p (by omega)
    · intro r l
      rw [h1, h2, h3, r0Blk_eq h, rest_zero]
    · intro k hk r l
      exact rest_succ _ _ _ t.val k r.val l.val
    · rw [ht]
  · rw [h5, rd4, V_main_arg4]
    exact h.v_eq ⟨t.val, lt16 t⟩ l j
  · rw [pP, pV, panel_eq]

/-- The error's block. -/
theorem body_e (t : Fin cfg0.N) (f7 : arg7.view.ty.Contents (Elt Ideal))
    (hp : ∀ r j, kernelRun.sl.r_44 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 (ix2 r j) = ((pP m c t.val r j : ℝ) : EReal)) :
    arg7.view.read (Elt Ideal) (arg7.view.writes (Elt Ideal) f7 (kernelRun (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14).2.1)
      = ((cfg0.win 6).blk t).view.read (Elt Ideal) (eArr m c) := by
  funext y
  obtain ⟨a, r, l, rfl⟩ : ∃ (a : Fin 3) (r : Fin 384) (l : Fin 256), y = ix3 a r l := ⟨y 0, y 1, y 2, eq_ix3 y⟩
  refine (e_read c (grid0.coords t) arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f8 f9 f10 f11 f12 f13 f14 f7 a r l).trans ((hp _ _).trans ?_)
  refine Eq.trans ?_ (rd6 c t (eArr m c) a r l).symm
  show _ = ((pV (aW m c) (aC m c) (aK m c) (aU m c) (aX m c) ((col t l).val / 256) (384 * a.val + r.val) ((col t l).val % 256) : ℝ) : EReal)
  rw [(panel_idx t l).1, (panel_idx t l).2]
  rfl

end Cert.PropIdeal.Hand
-- ==== Proof.RunValue.lean ====
module

public import proofs.«01_k».proof.Proof.PointValue

/-!
# The kernel's run, with the values

Before grid point `t` the limb scratch holds the errors of the panels before `t` in its first array and zeros in the
other two; the point writes panel `t`'s slab and the two result blocks.
-/

@[expose] public section

set_option maxRecDepth 16384

noncomputable section

namespace Cert.PropIdeal.Hand

open Cert.PropIdeal Cert.PropIdeal.Gen Cert.Sem
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What holds of the scratch before point `t`. -/
def vPhi (c : Dev nD) (t : ℕ) : sProp 𝕄 :=
  iprop(((∃ d, ⌜∀ (k : Fin 16) (r : Fin 1152) (p : Fin 256), k.val < t → d (ix3 k r p) = ((pP m c k.val r p : ℝ) : EReal)⌝ ∗ owns (c : Thread nD τ) (Memref.whole cc0_scratch0) fullShare d) ∗ (∃ d, ⌜∀ (k : Fin 16) (r : Fin 1152) (p : Fin 256), k.val < t → d (ix3 k r p) = (0 : EReal)⌝ ∗ owns (c : Thread nD τ) (Memref.whole cc0_scratch1) fullShare d) ∗ (∃ d, ⌜∀ (k : Fin 16) (r : Fin 1152) (p : Fin 256), k.val < t → d (ix3 k r p) = (0 : EReal)⌝ ∗ owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r))

/-- The proof data of the value run. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ((cfg0.win 5).blk t).view.read (Elt Ideal) (qArr m c)
    | ⟨6, _⟩ => ((cfg0.win 6).blk t).view.read (Elt Ideal) (eArr m c)
  Φ t := vPhi m c t.val
  q _ := fullShare
  owed _ := 0

theorem vA_eq (c : Dev nD) (w : Fin cfg0.W) : (vdats m 0 c).A w = V m c (Pipeline.arrRef spec0 w) := by
  dsimp only [vdats]
theorem vafter_in0 (c : Dev nD) (t : Fin cfg0.N) : (vdats m 0 c).after 0 t = iblk m c 0 t := by dsimp only [vdats]
theorem vbefore0 (c : Dev nD) (t : Fin cfg0.N) (d) : (vdats m 0 c).before 0 t d = iblk m c 0 t :=
  before0_0_of m (vdats m 0 c) (vA_eq m c 0) (vafter_in0 m c) t d
theorem vafter_in1 (c : Dev nD) (t : Fin cfg0.N) : (vdats m 0 c).after 1 t = iblk m c 1 t := by dsimp only [vdats]
theorem vbefore1 (c : Dev nD) (t : Fin cfg0.N) (d) : (vdats m 0 c).before 1 t d = iblk m c 1 t :=
  before0_1_of m (vdats m 0 c) (vA_eq m c 1) (vafter_in1 m c) t d
theorem vafter_in2 (c : Dev nD) (t : Fin cfg0.N) : (vdats m 0 c).after 2 t = iblk m c 2 t := by dsimp only [vdats]
theorem vbefore2 (c : Dev nD) (t : Fin cfg0.N) (d) : (vdats m 0 c).before 2 t d = iblk m c 2 t :=
  before0_2_of m (vdats m 0 c) (vA_eq m c 2) (vafter_in2 m c) t d
theorem vafter_in3 (c : Dev nD) (t : Fin cfg0.N) : (vdats m 0 c).after 3 t = iblk m c 3 t := by dsimp only [vdats]
theorem vbefore3 (c : Dev nD) (t : Fin cfg0.N) (d) : (vdats m 0 c).before 3 t d = iblk m c 3 t :=
  before0_3_of m (vdats m 0 c) (vA_eq m c 3) (vafter_in3 m c) t d
theorem vafter_in4 (c : Dev nD) (t : Fin cfg0.N) : (vdats m 0 c).after 4 t = iblk m c 4 t := by dsimp only [vdats]
theorem vbefore4 (c : Dev nD) (t : Fin cfg0.N) (d) : (vdats m 0 c).before 4 t d = iblk m c 4 t :=
  before0_4_of m (vdats m 0 c) (vA_eq m c 4) (vafter_in4 m c) t d
theorem vafter5 (c : Dev nD) (t : Fin cfg0.N) : (vdats m 0 c).after 5 t = ((cfg0.win 5).blk t).view.read (Elt Ideal) (qArr m c) := by dsimp only [vdats]
theorem vafter6 (c : Dev nD) (t : Fin cfg0.N) : (vdats m 0 c).after 6 t = ((cfg0.win 6).blk t).view.read (Elt Ideal) (eArr m c) := by dsimp only [vdats]

def vbodyPre (c : Dev nD) (t : Fin cfg0.N) : sProp 𝕄 :=
  iprop((vdats m 0 c).Φ t.castSucc ∗ (vdats m 0 c).owesAt () t.castSucc
     ∗ (∃ d, owns (c : Thread nD τ) (st0_0 t) fullShare ((vdats m 0 c).before 0 t d)) ∗ (∃ d, owns (c : Thread nD τ) (st0_1 t) fullShare ((vdats m 0 c).before 1 t d)) ∗ (∃ d, owns (c : Thread nD τ) (st0_2 t) fullShare ((vdats m 0 c).before 2 t d)) ∗ (∃ d, owns (c : Thread nD τ) (st0_3 t) fullShare ((vdats m 0 c).before 3 t d)) ∗ (∃ d, owns (c : Thread nD τ) (st0_4 t) fullShare ((vdats m 0 c).before 4 t d)) ∗ (∃ d, owns (c : Thread nD τ) (st0_5 t) fullShare ((vdats m 0 c).before 5 t d)) ∗ (∃ d, owns (c : Thread nD τ) (st0_6 t) fullShare ((vdats m 0 c).before 6 t d)))
def vbodyPost (c : Dev nD) (t : Fin cfg0.N) : sProp 𝕄 :=
  iprop((vdats m 0 c).Φ t.succ ∗ (vdats m 0 c).owesAt () t.succ
     ∗ owns (c : Thread nD τ) (st0_0 t) fullShare ((vdats m 0 c).after 0 t) ∗ owns (c : Thread nD τ) (st0_1 t) fullShare ((vdats m 0 c).after 1 t) ∗ owns (c : Thread nD τ) (st0_2 t) fullShare ((vdats m 0 c).after 2 t) ∗ owns (c : Thread nD τ) (st0_3 t) fullShare ((vdats m 0 c).after 3 t) ∗ owns (c : Thread nD τ) (st0_4 t) fullShare ((vdats m 0 c).after 4 t) ∗ owns (c : Thread nD τ) (st0_5 t) fullShare ((vdats m 0 c).after 5 t) ∗ owns (c : Thread nD τ) (st0_6 t) fullShare ((vdats m 0 c).after 6 t))

set_option maxHeartbeats 4000000 in
theorem vsound_body (hfin : ∀ c, AllReal (aW m c) (aK m c) (aU m c) (aX m c)) (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0
  rw [show (vdats m 0 c).Φ t.succ = vPhi m c (t.val + 1) from rfl, show (vdats m 0 c).Φ t.castSucc = vPhi m c t.val from rfl]
  rw [show (vdats m 0 c).owesAt () t.succ = (vdats m 0 c).owesAt () t.castSucc from rfl]
  unfold vPhi owns
  iintro ⟨⟨⟨⟨%s0, %hs0, %g0, %hg0, S0⟩, ⟨%s1, %hs1, %g1, %hg1, S1⟩, ⟨%s2, %hs2, %g2, %hg2, S2⟩, ⟨%s3, %g3, %hg3, S3⟩, ⟨%s4, %g4, %hg4, S4⟩, ⟨%s5, %g5, %hg5, S5⟩, ⟨%s6, %g6, %hg6, S6⟩⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  rw [vbefore0] at hf0
  rw [vbefore1] at hf1
  rw [vbefore2] at hf2
  rw [vbefore3] at hf3
  rw [vbefore4] at hf4
  subst hg0 hg1 hg2
  have hp := fun r j => body_p (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 g0 g1 g2 g3 g4 g5 (hfin c) t hf0 hf1 hf2 hf3 hf4 hs0 hs1 hs2 r j
  iapply (wp_wand_r Idealize.ShloMosaic.frame (wpE (defs₀ (F := Ideal)) Variants.none (c : Thread nD τ) none) Set.univ)
  isplitl [H0 H1 H2 H3 H4 H5 H6 S0 S1 S2 S3 S4 S5 S6]
  · iapply ((kernelRun c (grid0.coords t) _ _ _ _ _ _ _ _ _ _ _ _ _ _ _ _ _ _ _ _ _ _ _ _ _ _ _ _ f0 f1 f2 f3 f4 g0 g1 g2 g3 g4 g5 g6).2.2.2.2.2 f5 f6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iexact S6
  · iintro %_ ⟨H0, H1, H2, H3, H4, H5, H6, S0, S1, S2, ⟨%e3, S3⟩, ⟨%e4, S4⟩, ⟨%e5, S5⟩, ⟨%e6, S6⟩⟩
    isplitl [Hg S0 S1 S2 S3 S4 S5 S6]
    · isplitr [Hg]; swap; · iexact Hg
      isplitl [S0]
      · iexists _; isplitr; swap
        · iexists _; isplitr; swap; · iexact S0
          ipureintro; rfl
        ipureintro
        intro k r p hk
        exact limb8_read c (grid0.coords t) _ _ _ _ _ _ _ _ _ _ _ _ _ _ _ _ _ _ _ _ _ _ _ _ _ _ _ _ f0 f1 f2 f3 f4 g0 g1 g2 g3 g4 g5 g6 (pP m c t.val) (pP m c) hp (fun k r p hk => hs0 k r p (by rwa [coords_val] at hk)) (fun r j => by rw [coords_val]) k r p (by rw [coords_val]; exact hk)
      isplitl [S1]
      · iexists _; isplitr; swap
        · iexists _; isplitr; swap; · iexact S1
          ipureintro; rfl
        ipureintro
        intro k r p hk
        exact limb9_read c (grid0.coords t) _ _ _ _ _ _ _ _ _ _ _ _ _ _ _ _ _ _ _ _ _ _ _ _ _ _ _ _ f0 f1 f2 f3 f4 g0 g1 g2 g3 g4 g5 g6 (pP m c t.val) (pP m c) hp (fun k r p hk => hs1 k r p (by rwa [coords_val] at hk)) (fun r j => by rw [coords_val]) k r p (by rw [coords_val]; exact hk)
      isplitl [S2]
      · iexists _; isplitr; swap
        · iexists _; isplitr; swap; · iexact S2
          ipureintro; rfl
        ipureintro
        intro k r p hk
        exact limb10_read c (grid0.coords t) _ _ _ _ _ _ _ _ _ _ _ _ _ _ _ _ _ _ _ _ _ _ _ _ _ _ _ _ f0 f1 f2 f3 f4 g0 g1 g2 g3 g4 g5 g6 (pP m c t.val) (pP m c) hp (fun k r p hk => hs2 k r p (by rwa [coords_val] at hk)) (fun r j => by rw [coords_val]) k r p (by rw [coords_val]; exact hk)
      isplitl [S3]
      · iexists _, _; isplitr; swap; · iexact S3
        ipureintro; rfl
      isplitl [S4]
      · iexists _, _; isplitr; swap; · iexact S4
        ipureintro; rfl
      isplitl [S5]
      · iexists _, _; isplitr; swap; · iexact S5
        ipureintro; rfl
      iexists _, _; isplitr; swap; · iexact S6
      ipureintro; rfl
    isplitl [HW]; · iexact HW
    isplitl [H0]
    · iexists _; isplitr; swap; · iexact H0
      ipureintro; rw [vafter_in0]; exact hf0
    isplitl [H1]
    · iexists _; isplitr; swap; · iexact H1
      ipureintro; rw [vafter_in1]; exact hf1
    isplitl [H2]
    · iexists _; isplitr; swap; · iexact H2
      ipureintro; rw [vafter_in2]; exact hf2
    isplitl [H3]
    · iexists _; isplitr; swap; · iexact H3
      ipureintro; rw [vafter_in3]; exact hf3
    isplitl [H4]
    · iexists _; isplitr; swap; · iexact H4
      ipureintro; rw [vafter_in4]; exact hf4
    isplitl [H5]
    · iexists _; isplitr; swap; · iexact H5
      ipureintro; rw [vafter5]; exact body_q _ _ _ _ _ _ _ _ _ _ _ _ _ _ _ _ _ _ _ _ _ _ _ _ _ _ _ _ _ _ _ _ _ _ _ _ _ _ _ _ t _ hf1 hf2
    iexists _; isplitr; swap; · iexact H6
    ipureintro; rw [vafter6]; exact body_e _ _ _ _ _ _ _ _ _ _ _ _ _ _ _ _ _ _ _ _ _ _ _ _ _ _ _ _ _ _ _ _ _ _ _ _ _ _ _ _ t _ hp

theorem vbody_obligation (hfin : ∀ c, AllReal (aW m c) (aK m c) (aU m c) (aX m c)) (c : Dev nD) :
    BodyObligation (vdats m 0 c) (defs₀ (F := Ideal)) Variants.none () Set.univ := fun t => by
  rw [bigSep_W0, bigSep_W0, defs₀_row]
  exact triple_restated (vsound_body m hfin c t) rfl .rfl fun _ => .rfl

theorem vin (c : Dev nD) : (Pipeline.ΦA (U := UR sig nD τ) (Val := Elt Ideal) spec0 c : sProp 𝕄) ⊢ (vdats m 0 c).Φ 0 := by
  rw [PhiA_eq, show (vdats m 0 c).Φ 0 = vPhi m c 0 from rfl]
  unfold vPhi
  iintro ⟨⟨⟨%s0, S0⟩ , ⟨%s1, S1⟩ , ⟨%s2, S2⟩ , ⟨%s3, S3⟩ , ⟨%s4, S4⟩ , ⟨%s5, S5⟩ , ⟨%s6, S6⟩⟩, Hg⟩
  isplitr [Hg]; swap; · iexact Hg
  isplitl [S0]
  · iexists s0; isplitr; swap; · iexact S0
    ipureintro; intro k r p hk; exact absurd hk (Nat.not_lt_zero _)
  isplitl [S1]
  · iexists s1; isplitr; swap; · iexact S1
    ipureintro; intro k r p hk; exact absurd hk (Nat.not_lt_zero _)
  isplitl [S2]
  · iexists s2; isplitr; swap; · iexact S2
    ipureintro; intro k r p hk; exact absurd hk (Nat.not_lt_zero _)
  isplitl [S3]
  · iexists s3; iexact S3
  isplitl [S4]
  · iexists s4; iexact S4
  isplitl [S5]
  · iexists s5; iexact S5
  iexists s6; iexact S6

theorem vout (c : Dev nD) : (vdats m 0 c).Φ (Fin.last cfg0.N) ⊢ (Pipeline.ΦA (U := UR sig nD τ) (Val := Elt Ideal) spec0 c : sProp 𝕄) := by
  rw [PhiA_eq, show (vdats m 0 c).Φ (Fin.last cfg0.N) = vPhi m c cfg0.N from rfl]
  unfold vPhi
  iintro ⟨⟨⟨%s0, %hs0, S0⟩ , ⟨%s1, %hs1, S1⟩ , ⟨%s2, %hs2, S2⟩ , ⟨%s3, S3⟩ , ⟨%s4, S4⟩ , ⟨%s5, S5⟩ , ⟨%s6, S6⟩⟩, Hg⟩
  isplitr [Hg]; swap; · iexact Hg
  isplitl [S0]
  · iexists s0; iexact S0
  isplitl [S1]
  · iexists s1; iexact S1
  isplitl [S2]
  · iexists s2; iexact S2
  isplitl [S3]
  · iexists s3; iexact S3
  isplitl [S4]
  · iexists s4; iexact S4
  isplitl [S5]
  · iexists s5; iexact S5
  iexists s6; iexact S6

set_option backward.isDefEq.respectTransparency.types false in
theorem vrun_main (hfin : ∀ c, AllReal (aW m c) (aK m c) (aU m c) (aX m c)) :
    θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => (vbody_obligation m hfin c).loose) (hshare := fun c => (vdats m 0 c).share_full fun _ => rfl)
    (howed := fun _ _ => rfl) (V := V m) (hmain := hmain m Variants.none) (hA := vA_eq m) (hin := vin m) (hout := vout m)

theorem vfinal5 (c : Dev nD) : (vdats m 0 c).arrAt 5 cfg0.N = qArr m c := by
  refine (vdats m 0 c).arrAt_eq_of_covers 5 (qArr m c) (by decide +kernel) fun t hf y => ?_
  blk_simp
  rw [vafter5]
  rfl
theorem vfinal6 (c : Dev nD) : (vdats m 0 c).arrAt 6 cfg0.N = eArr m c := by
  refine (vdats m 0 c).arrAt_eq_of_covers 6 (eArr m c) (by decide +kernel) fun t hf y => ?_
  blk_simp
  rw [vafter6]
  rfl

/-- The kernel's program ends with both results as specified and its arguments unchanged. -/
theorem value_run (hfin : ∀ c, AllReal (aW m c) (aK m c) (aU m c) (aX m c)) :
    θ_run defs (onTc (τ := τ) (main (F := Ideal))) ⟨m, fun _ => 0, ρ⟩ (fun r => ∀ c : Dev nD,
      r.2.mem ((c.tc : Thread nD τ).loc main_v1_0) = qArr m c
      ∧ r.2.mem ((c.tc : Thread nD τ).loc main_v1_1) = eArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 5).trans (vfinal5 m c), ((h c).1 6).trans (vfinal6 m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c))),
      ((h c).2 main_arg2 (Pipeline.mem_restRefs_of main_arg2 (by decide) (by decide))).trans (V_main_arg2 m c),
      ((h c).1 3).trans (((vdats m 0 c).arrAt_in 3 rfl _).trans ((vA_eq m c 3).trans (V_main_arg3 m c))),
      ((h c).1 4).trans (((vdats m 0 c).arrAt_in 4 rfl _).trans ((vA_eq m c 4).trans (V_main_arg4 m c)))⟩) (vrun_main m ρ hfin)

end Cert.PropIdeal.Hand
-- ==== Proof.Finite.lean ====
module

public import proofs.«01_k».proof.Pre_finite
public import proofs.«01_k».proof.Proof.Spec
public import Idealize.ShloMosaic.Lib.ReduceAll
public import Idealize.ShloMosaic.PureOps.Ideal.Laws

/-!
# The precondition

`finite` being one says that no floating-point argument holds an infinity.
-/

@[expose] public section

set_option maxRecDepth 16384

noncomputable section

namespace Cert.Sem

open Idealize.ShloMosaic Idealize.ShloMosaic.ValueIdx

theorem preFacts : Cert.Pre_finite.Facts where
  bcast_S_S3x384x4096 := by decide
  reducesTo_S3x384x4096_S_d0_1_2 := by decide
  h_S_ := by decide
  bcast_S_S3x32x256x4 := by decide
  reducesTo_S3x32x256x4_S_d0_1_2_3 := by decide
  bcast_S_S4096x4096 := by decide
  reducesTo_S4096x4096_S_d0_1 := by decide
  bcast_S_S16x256x256 := by decide
  reducesTo_S16x256x256_S_d0_1_2 := by decide

/-- An absolute value below infinity is a real's. -/
theorem real_of_abs_lt {φ : FTy} (x inf : Ideal φ) (hinf : inf = (⊤ : EReal))
    (h : FloatOps.cmpf .olt (FloatOps.hostAbsf x) inf = 1#1) : (x : EReal) = ((EReal.toReal x : ℝ) : EReal) := by
  subst hinf
  have h' : Ideal.cmp .olt (max (x : EReal) (-(x : EReal))) ⊤ = 1#1 := h
  have hlt : max (x : EReal) (-(x : EReal)) < ⊤ := by
    by_contra hc
    simp [Ideal.cmp, hc] at h'
  have h1 : (x : EReal) ≠ ⊤ := fun e => by rw [e] at hlt; simp at hlt
  have h2 : (x : EReal) ≠ ⊥ := fun e => by rw [e] at hlt; simp at hlt
  exact (EReal.coe_toReal h1 h2).symm

theorem inf32 : Ideal.ofBits .f32 0x7F800000#32 = ⊤ := by simp [Ideal.ofBits, Ideal.ieee]
theorem inf16 : Ideal.ofBits .bf16 0x7F80#16 = ⊤ := by simp [Ideal.ofBits, Ideal.ieee]

instance : Subsingleton (⟨0, ![]⟩ : Shape).Idx := ⟨fun a b => funext fun i => i.elim0⟩

theorem and_one {a b : BitVec 1} (h : a &&& b = 1#1) : a = 1#1 ∧ b = 1#1 := by
  revert a b; decide

theorem allReal_of_fn [hp : Cert.Pre_finite.Facts] (W : IW → EReal) (C : IC → BitVec 8) (K : IK → EReal) (U : IU → EReal) (X : IV → EReal)
    (h : Cert.Pre_finite.fn (F := Ideal) W C K U X = fun _ => 1#1) : AllReal W K U X := by
  have h0 := congrFun h (fun i => i.elim0)
  obtain ⟨h1, hx⟩ := and_one h0
  obtain ⟨h2, hu⟩ := and_one h1
  obtain ⟨hw, hk⟩ := and_one h2
  exact ⟨fun y => real_of_abs_lt _ _ inf16 (Host.reduce_andi_all _ _ _ _ _ hw y),
    fun y => real_of_abs_lt _ _ inf16 (Host.reduce_andi_all _ _ _ _ _ hk y),
    fun y => real_of_abs_lt _ _ inf32 (Host.reduce_andi_all _ _ _ _ _ hu y),
    fun y => real_of_abs_lt _ _ inf32 (Host.reduce_andi_all _ _ _ _ _ hx y)⟩

end Cert.Sem
-- ==== Proof.RefEntry.lean ====
module

public import proofs.«01_k».proof.Proof.RefRun
public import proofs.«01_k».proof.Proof.Spec
public import Idealize.ShloMosaic.Lib.DynamicIndex
public import Idealize.ShloMosaic.Lib.Pointwise.ShapeOpsCore
public import Idealize.ShloMosaic.Lib.Pointwise.SelectCore

/-!
# What the reference's loop starts from

The codebook read at the codes, the residual, the counters and the zeros of the error.
-/

@[expose] public section

set_option maxRecDepth 16384

noncomputable section

namespace Cert.ReferenceIdeal.Hand

open Cert.ReferenceIdeal Cert.ReferenceIdeal.Gen Cert.ReferenceIdeal.Value Cert.Sem
open Idealize.ShloMosaic hiding ix1 ix2 ix3 ix4
open Idealize.ShloMosaic.TcCoe Idealize.ShloMosaic.Tactic Idealize.ShloMosaic.ValueIdx
open Idealize.ShloMosaic.StableHlo

/-- The matrix's number, as the gather's first index. -/
def mIdx (v1 : IVec S3x1x1 32) : IVec S3x1x1 32 :=
  select (cmpi .slt v1 (broadcastInDim S3x1x1 ![] bcast_S_S3x1x1 (constantI S_ 32 0#32)))
    (addi v1 (broadcastInDim S3x1x1 ![] bcast_S_S3x1x1 (constantI S_ 32 3#32))) v1
/-- The block's number, as the gather's second index. -/
def bIdx (v5 : IVec S1024 32) : IVec S1x1x1024 32 :=
  select (cmpi .slt (broadcastInDim S1x1x1024 ![2] bcast_S1024_S1x1x1024_2 v5) (broadcastInDim S1x1x1024 ![] bcast_S_S1x1x1024 (constantI S_ 32 0#32)))
    (addi (broadcastInDim S1x1x1024 ![2] bcast_S1024_S1x1x1024_2 v5) (broadcastInDim S1x1x1024 ![] bcast_S_S1x1x1024 (constantI S_ 32 32#32)))
    (broadcastInDim S1x1x1024 ![2] bcast_S1024_S1x1x1024_2 v5)
/-- The code, as the gather's third index. -/
def cIdx (C : IVec S3x384x1024 8) : IVec S3x384x1024 32 :=
  select (cmpi .slt (extui 32 C natLt_8_32) (broadcastInDim S3x384x1024 ![] bcast_S_S3x384x1024 (constantI S_ 32 0#32)))
    (addi (extui 32 C natLt_8_32) (broadcastInDim S3x384x1024 ![] bcast_S_S3x384x1024 (constantI S_ 32 256#32))) (extui 32 C natLt_8_32)
/-- The gather's index triples. -/
def startIdx (C : IVec S3x384x1024 8) (v1 : IVec S3x1x1 32) (v5 : IVec S1024 32) : IVec S3x384x1024x3 32 :=
  concatenate S3x384x1024x3 3
    [⟨S3x384x1024x1, broadcastInDim S3x384x1024x1 ![0, 1, 2] bcast_S3x384x1024_S3x384x1024x1_0_1_2 (broadcastInDim S3x384x1024 ![0, 1, 2] bcast_S3x1x1_S3x384x1024_0_1_2 (mIdx v1))⟩,
     ⟨S3x384x1024x1, broadcastInDim S3x384x1024x1 ![0, 1, 2] bcast_S3x384x1024_S3x384x1024x1_0_1_2 (broadcastInDim S3x384x1024 ![0, 1, 2] bcast_S1x1x1024_S3x384x1024_0_1_2 (bIdx v5))⟩,
     ⟨S3x384x1024x1, broadcastInDim S3x384x1024x1 ![0, 1, 2] bcast_S3x384x1024_S3x384x1024x1_0_1_2 (cIdx C)⟩]
    concatenates_S3x384x1024x1_S3x384x1024x1_S3x384x1024x1_S3x384x1024x3_d3
/-- The rounded weights. -/
def qRef (C : IVec S3x384x1024 8) (K : FVec Ideal S3x32x256x4 .bf16) (v1 : IVec S3x1x1 32) (v5 : IVec S1024 32) : FVec Ideal S3x384x4096 .bf16 :=
  shapeCast S3x384x4096 (Host.gather gather_S3x32x256x4_S3x384x1024x3_S3x384x1024x4_3_012_n_n_012_3_1114 K (startIdx C v1 v5)) shapeCasts_S3x384x1024x4_S3x384x4096

/-! ## The gather -/

/-- A start index read signed and clamped. -/
def clampIdx (idx : IVec S3x384x1024x3 32) (a : Fin 3) (r : Fin 384) (g : Fin 1024) (s : Fin 3) (n : ℕ) : ℕ := min (idx (ix4 a r g s)).toInt.toNat n

theorem gather_apply (K : FVec Ideal S3x32x256x4 .bf16) (idx : IVec S3x384x1024x3 32) (a : Fin 3) (r : Fin 384) (g : Fin 1024) (e : Fin 4) :
    Host.gather gather_S3x32x256x4_S3x384x1024x3_S3x384x1024x4_3_012_n_n_012_3_1114 K idx (ix4 a r g e)
      = K (ix4 (⟨clampIdx idx a r g 0 2, Nat.lt_succ_of_le (Nat.min_le_right _ _)⟩ : Fin 3)
          (⟨clampIdx idx a r g 1 31, Nat.lt_succ_of_le (Nat.min_le_right _ _)⟩ : Fin 32)
          (⟨clampIdx idx a r g 2 255, Nat.lt_succ_of_le (Nat.min_le_right _ _)⟩ : Fin 256) e) := by
  unfold Host.gather
  refine congrArg K (funext fun d => Fin.ext ?_)
  have hsi : ∀ (s : Fin 3) h, (gather_S3x32x256x4_S3x384x1024x3_S3x384x1024x4_3_012_n_n_012_3_1114).siIdx (ix4 a r g e) ⟨s.val, h⟩ = ix4 a r g s := by
    intro s h; funext b; refine Fin.ext ?_
    match b with
    | ⟨0, _⟩ => rfl
    | ⟨1, _⟩ => rfl
    | ⟨2, _⟩ => rfl
    | ⟨3, _⟩ => rfl
  show (gather_S3x32x256x4_S3x384x1024x3_S3x384x1024x4_3_012_n_n_012_3_1114).start (ix4 a r g e) idx d
    + (gather_S3x32x256x4_S3x384x1024x3_S3x384x1024x4_3_012_n_n_012_3_1114).batchCoord (ix4 a r g e) d
    + (gather_S3x32x256x4_S3x384x1024x3_S3x384x1024x4_3_012_n_n_012_3_1114).offCoord (ix4 a r g e) d = _
  match d with
  | ⟨0, _⟩ => exact congrArg (fun z => min (idx z).toInt.toNat 2) (hsi 0 _)
  | ⟨1, _⟩ => exact congrArg (fun z => min (idx z).toInt.toNat 31) (hsi 1 _)
  | ⟨2, _⟩ => exact congrArg (fun z => min (idx z).toInt.toNat 255) (hsi 2 _)
  | ⟨3, _⟩ => exact (Nat.zero_add _)

section Start
variable (C : IVec S3x384x1024 8) (v1 : IVec S3x1x1 32) (v5 : IVec S1024 32) (a : Fin 3) (r : Fin 384) (g : Fin 1024)

theorem startIdx_zero : startIdx C v1 v5 (ix4 a r g (0 : Fin 3)) = mIdx v1 (ix3 a (0 : Fin 1) (0 : Fin 1)) := by
  unfold startIdx
  rw [concatenate_cons_apply, concatenateAt_cons]
  refine (dif_pos (show (0 : ℕ) < 1 by omega)).trans ?_
  rw [Shape.Idx.norm_def]
  refine congrArg (mIdx v1) (funext fun d => Fin.ext ?_)
  match d with
  | ⟨0, _⟩ => rfl
  | ⟨1, _⟩ => rfl
  | ⟨2, _⟩ => rfl
theorem startIdx_one : startIdx C v1 v5 (ix4 a r g (1 : Fin 3)) = bIdx v5 (ix3 (0 : Fin 1) (0 : Fin 1) g) := by
  unfold startIdx
  rw [concatenate_cons_apply, concatenateAt_cons]
  refine (dif_neg (show ¬ (1 : ℕ) < 1 by omega)).trans ?_
  rw [concatenateAt_cons]
  refine (dif_pos (show (1 - 1 : ℕ) < 1 by omega)).trans ?_
  rw [Shape.Idx.norm_def]
  refine congrArg (bIdx v5) (funext fun d => Fin.ext ?_)
  match d with
  | ⟨0, _⟩ => rfl
  | ⟨1, _⟩ => rfl
  | ⟨2, _⟩ => rfl
theorem startIdx_two : startIdx C v1 v5 (ix4 a r g (2 : Fin 3)) = cIdx C (ix3 a r g) := by
  unfold startIdx
  rw [concatenate_cons_apply, concatenateAt_cons]
  refine (dif_neg (show ¬ (2 : ℕ) < 1 by omega)).trans ?_
  rw [concatenateAt_cons]
  refine (dif_neg (show ¬ (2 - 1 : ℕ) < 1 by omega)).trans ?_
  rw [concatenateAt_singleton, Shape.Idx.norm_def]
  refine congrArg (cIdx C) (funext fun d => Fin.ext ?_)
  match d with
  | ⟨0, _⟩ => rfl
  | ⟨1, _⟩ => rfl
  | ⟨2, _⟩ => rfl

/-- An index that is not negative is left as it is. -/
theorem wrap_ofNat (n m : ℕ) (hn : n < 2 ^ 31) :
    Scalar.select (IntOp.cmpi .slt (BitVec.ofNat 32 n) 0#32) (IntOp.addi (BitVec.ofNat 32 n) (BitVec.ofNat 32 m)) (BitVec.ofNat 32 n) = BitVec.ofNat 32 n := by
  have h : (BitVec.ofNat 32 n).slt 0#32 = false := by
    simp only [BitVec.slt, toInt_ofNat_of_lt hn, BitVec.toInt_zero, decide_eq_false_iff_not]; omega
  show Scalar.select (BitVec.ofBool ((BitVec.ofNat 32 n).slt 0#32)) _ _ = _
  rw [h]; rfl

theorem clamp_ofNat (n m : ℕ) (hn : n ≤ m) (hm : m < 2 ^ 31) : min (BitVec.ofNat 32 n).toInt.toNat m = n := by
  rw [toInt_ofNat_of_lt (by omega)]; omega

theorem qRef_apply (K : FVec Ideal S3x32x256x4 .bf16) (h1 : v1 = broadcastInDim S3x1x1 ![0] bcast_S3_S3x1x1_0 (iotaInDim S3 32 0))
    (h5 : v5 = fun j => BitVec.ofNat 32 ((j 0).val / 32)) (j : Fin 4096) :
    qRef C K v1 v5 (ix3 a r j) = qAt C K a r j := by
  unfold qRef
  have hj := j.isLt
  rw [shapeCast_apply _ _ (ix3 a r j) (ix4 a r (⟨j.val / 4, by omega⟩ : Fin 1024) (⟨j.val % 4, by omega⟩ : Fin 4))
    (by rw [Shape.rowMajor_val_four, Shape.rowMajor_val_three]
        show (((a.val * 384 + r.val) * 1024 + j.val / 4) * 4 + j.val % 4) = ((a.val * 384 + r.val) * 4096 + j.val); omega), gather_apply]
  have e0 : mIdx v1 (ix3 a (0 : Fin 1) (0 : Fin 1)) = BitVec.ofNat 32 a.val := by
    subst h1; exact wrap_ofNat a.val 3 (by have := a.isLt; omega)
  have e1 : bIdx v5 (ix3 (0 : Fin 1) (0 : Fin 1) (⟨j.val / 4, by omega⟩ : Fin 1024)) = BitVec.ofNat 32 (j.val / 4 / 32) := by
    subst h5; exact wrap_ofNat (j.val / 4 / 32) 32 (by omega)
  have hw : (C (ix3 a r (⟨j.val / 4, by omega⟩ : Fin 1024))).setWidth 32 = BitVec.ofNat 32 (C (ix3 a r (⟨j.val / 4, by omega⟩ : Fin 1024))).toNat := by
    apply BitVec.eq_of_toNat_eq; simp
  have hc := (C (ix3 a r (⟨j.val / 4, by omega⟩ : Fin 1024))).isLt
  have e2 : cIdx C (ix3 a r (⟨j.val / 4, by omega⟩ : Fin 1024)) = BitVec.ofNat 32 (C (ix3 a r (⟨j.val / 4, by omega⟩ : Fin 1024))).toNat := by
    have h := wrap_ofNat (C (ix3 a r (⟨j.val / 4, by omega⟩ : Fin 1024))).toNat 256 (by omega)
    rw [← hw] at h
    rw [← hw]
    exact h
  unfold qAt
  refine congrArg K (funext fun d => Fin.ext ?_)
  match d with
  | ⟨0, _⟩ => show min (startIdx C v1 v5 _).toInt.toNat 2 = a.val; rw [startIdx_zero, e0]; exact clamp_ofNat _ _ (by have := a.isLt; omega) (by omega)
  | ⟨1, _⟩ => show min (startIdx C v1 v5 _).toInt.toNat 31 = j.val / 128; rw [startIdx_one, e1, clamp_ofNat _ _ (by omega) (by omega)]; omega
  | ⟨2, _⟩ => show min (startIdx C v1 v5 _).toInt.toNat 255 = _; rw [startIdx_two, e2]; exact clamp_ofNat _ _ (by omega) (by omega)
  | ⟨3, _⟩ => rfl

end Start

/-! ## The host's stretches -/

section Stretches
variable (X : Valuation τ sig (Elt Ideal))

theorem q_of : after hostOps0_2 X (Proc.devRef .tc main_v30)
    = qRef (X (Proc.devRef .tc main_arg1)) (X (Proc.devRef .tc main_arg2)) (X (Proc.devRef .tc main_v1)) (X (Proc.devRef .tc main_v5)) := by
  after_results
  rfl
theorem resid_of : after hostOps0_2 X (Proc.devRef .tc main_v38_3)
    = shapeCast S1152x4096 (subf (extf .f32 (X (Proc.devRef .tc main_arg0) : FVec Ideal S3x384x4096 .bf16) bitsLt_bf16_f32)
        (extf .f32 (qRef (X (Proc.devRef .tc main_arg1)) (X (Proc.devRef .tc main_arg2)) (X (Proc.devRef .tc main_v1)) (X (Proc.devRef .tc main_v5))) bitsLt_bf16_f32))
        shapeCasts_S3x384x4096_S1152x4096 := by
  after_results
  rfl
theorem trips_of : after hostOps0_2 X (Proc.devRef .tc main_v38_0) = iotaInDim S16 32 0 := by
  after_results
  rfl
theorem u_of : after hostOps0_2 X (Proc.devRef .tc main_v38_1) = X (Proc.devRef .tc main_arg3) := by
  after_results
  rfl
theorem rows_of : after hostOps0_2 X (Proc.devRef .tc main_v38_2) = iotaInDim S4096 32 0 := by
  after_results
  rfl
theorem x_of : after hostOps0_2 X (Proc.devRef .tc main_v38_4) = X (Proc.devRef .tc main_arg4) := by
  after_results
  rfl
theorem zeros_of : after hostOps0_2 X (Proc.devRef .tc main_v38_6)
    = broadcastInDim S1152x4096 ![] bcast_S_S1152x4096 (constant (F := Ideal) S_ .f32 0x00000000#32) := by
  after_results
  rfl
theorem mats_of : after hostOps0 X (Proc.devRef .tc main_v1) = broadcastInDim S3x1x1 ![0] bcast_S3_S3x1x1_0 (iotaInDim S3 32 0) := by
  after_results
theorem cols_of : after hostOps0 X (Proc.devRef .tc main_v4)
    = muli (iotaInDim S1024 32 0) (broadcastInDim S1024 ![] bcast_S_S1024 (constantI S_ 32 4#32)) := by
  after_results
theorem width_of : after hostOps0 X (Proc.devRef .tc main_c_0) = constantI S_ 32 128#32 := by
  after_results

/-- The sign of a word. -/
def sgn (x : BitVec 32) : BitVec 32 := if x = 0 then 0 else if x.msb then -1 else 1

/-- Four times a group's number, halved down to its block of 128 columns. -/
theorem floorDiv : ∀ n : Fin 1024, (let x : BitVec 32 := BitVec.ofNat 32 n.val * 4#32
    Scalar.select (IntOp.andi (IntOp.cmpi .ne (sgn x) (sgn 128#32)) (IntOp.cmpi .ne (IntOp.remsi .host x 128#32) 0#32))
      (IntOp.subi (IntOp.divsi .host x 128#32) 1#32) (IntOp.divsi .host x 128#32)) = BitVec.ofNat 32 (n.val / 32) := by
  decide +kernel

theorem blocks_of (h4 : X (Proc.devRef .tc main_v4) = muli (iotaInDim S1024 32 0) (broadcastInDim S1024 ![] bcast_S_S1024 (constantI S_ 32 4#32)))
    (h0 : X (Proc.devRef .tc main_c_0) = constantI S_ 32 128#32) :
    after hostOps0_1 X (Proc.devRef .tc main_v5) = fun j => BitVec.ofNat 32 ((j 0).val / 32) := by
  after_results
  simp only [TRef.ofBuf, TRef.toBuf, cast_eq]
  rw [h4, h0]
  funext j
  exact floorDiv ⟨(j 0).val, (j 0).isLt⟩

end Stretches

end Cert.ReferenceIdeal.Hand
-- ==== Proof.RefStep.lean ====
module

public import proofs.«01_k».proof.Proof.Gen.ReferenceIdeal.Run
public import proofs.«01_k».proof.Proof.Spec
public import Idealize.ShloMosaic.Lib.StackMember
public import Idealize.ShloMosaic.Lib.DynamicIndex
public import Idealize.ShloMosaic.Lib.Pointwise.ShapeOpsCore

/-!
# One trip of the reference's loop

Trip `k` takes the product of the errors found so far with the columns of panel `k` of `u` off that panel's residual,
multiplies by the panel's inverse and writes the result into the panel's columns of the error.
-/

@[expose] public section

set_option maxRecDepth 16384

noncomputable section

namespace Cert.ReferenceIdeal.Hand

open Cert.ReferenceIdeal Cert.ReferenceIdeal.Gen Cert.ReferenceIdeal.Value Cert.Sem
open Idealize.ShloMosaic hiding ix1 ix2 ix3 ix4
open Idealize.ShloMosaic.TcCoe Idealize.ShloMosaic.Tactic Idealize.ShloMosaic.ValueIdx
open scoped BigOperators

/-! ## Slices at a given start -/

section Slices
variable {α : Type}

theorem dslice1 {N : ℕ} (x : (⟨1, ![N]⟩ : Shape).Idx → α) (start : Fin 1 → Int)
    (h : (⟨1, ![N]⟩ : Shape).Slices (fun _ => 0) ⟨1, ![1]⟩) (o : ℕ) (h0 : start 0 = (o : Int)) (ho : o < N) :
    Host.dynamicSlice ⟨1, ![1]⟩ x start h (ix1 (0 : Fin 1)) = x (ix1 ⟨o, ho⟩) := by
  rw [Host.dynamicSlice_apply, Shape.Idx.norm_def]
  refine congrArg x (funext fun a => Fin.ext ?_)
  match a with
  | ⟨0, _⟩ =>
    show Host.clampedStart ⟨1, ![N]⟩ ⟨1, ![1]⟩ h.1 start 0 + 0 = o
    rw [Host.clampedStart_of_le (s := ⟨1, ![N]⟩) (t := ⟨1, ![1]⟩) h.1 start 0 o h0 ho]; rfl

theorem dslice2 {M N n : ℕ} (x : (⟨2, ![M, N]⟩ : Shape).Idx → α) (start : Fin 2 → Int)
    (h : (⟨2, ![M, N]⟩ : Shape).Slices (fun _ => 0) ⟨2, ![M, n]⟩) (o : ℕ) (h0 : start 0 = 0) (h1 : start 1 = (o : Int)) (ho : o + n ≤ N)
    (i : Fin M) (l : Fin n) :
    Host.dynamicSlice ⟨2, ![M, n]⟩ x start h (ix2 i l) = x (ix2 i ⟨o + l.val, by have := l.isLt; omega⟩) := by
  rw [Host.dynamicSlice_apply, Shape.Idx.norm_def]
  refine congrArg x (funext fun a => Fin.ext ?_)
  match a with
  | ⟨0, _⟩ =>
    show Host.clampedStart ⟨2, ![M, N]⟩ ⟨2, ![M, n]⟩ h.1 start 0 + i.val = i.val
    rw [Host.clampedStart_of_le _ _ _ 0 h0 (le_of_eq (Nat.zero_add _))]; exact Nat.zero_add _
  | ⟨1, _⟩ => show Host.clampedStart ⟨2, ![M, N]⟩ ⟨2, ![M, n]⟩ h.1 start 1 + l.val = o + l.val; rw [Host.clampedStart_of_le _ _ _ o h1 ho]

theorem dslice3 {K M N : ℕ} (x : (⟨3, ![K, M, N]⟩ : Shape).Idx → α) (start : Fin 3 → Int)
    (h : (⟨3, ![K, M, N]⟩ : Shape).Slices (fun _ => 0) ⟨3, ![1, M, N]⟩) (o : ℕ) (h0 : start 0 = (o : Int)) (h1 : start 1 = 0)
    (h2 : start 2 = 0) (ho : o < K) (i : Fin M) (l : Fin N) :
    Host.dynamicSlice ⟨3, ![1, M, N]⟩ x start h (ix3 (0 : Fin 1) i l) = x (ix3 ⟨o, ho⟩ i l) := by
  rw [Host.dynamicSlice_apply, Shape.Idx.norm_def]
  refine congrArg x (funext fun a => Fin.ext ?_)
  match a with
  | ⟨0, _⟩ =>
    show Host.clampedStart ⟨3, ![K, M, N]⟩ ⟨3, ![1, M, N]⟩ h.1 start 0 + 0 = o
    rw [Host.clampedStart_of_le (s := ⟨3, ![K, M, N]⟩) (t := ⟨3, ![1, M, N]⟩) h.1 start 0 o h0 ho]; rfl
  | ⟨1, _⟩ =>
    show Host.clampedStart ⟨3, ![K, M, N]⟩ ⟨3, ![1, M, N]⟩ h.1 start 1 + i.val = i.val
    rw [Host.clampedStart_of_le _ _ _ 0 h1 (le_of_eq (Nat.zero_add _))]; exact Nat.zero_add _
  | ⟨2, _⟩ =>
    show Host.clampedStart ⟨3, ![K, M, N]⟩ ⟨3, ![1, M, N]⟩ h.1 start 2 + l.val = l.val
    rw [Host.clampedStart_of_le _ _ _ 0 h2 (le_of_eq (Nat.zero_add _))]; exact Nat.zero_add _

theorem dupdate2 {M N n : ℕ} (x : (⟨2, ![M, N]⟩ : Shape).Idx → α) (y : (⟨2, ![M, n]⟩ : Shape).Idx → α) (start : Fin 2 → Int)
    (h : (⟨2, ![M, N]⟩ : Shape).Slices (fun _ => 0) ⟨2, ![M, n]⟩) (o : ℕ) (h0 : start 0 = 0) (h1 : start 1 = (o : Int)) (ho : o + n ≤ N)
    (i : Fin M) (a : Fin N) :
    Host.dynamicUpdateSlice x y start h (ix2 i a)
      = if ha : o ≤ a.val ∧ a.val < o + n then y (ix2 i ⟨a.val - o, by omega⟩) else x (ix2 i a) := by
  have c0 : Host.clampedStart ⟨2, ![M, N]⟩ ⟨2, ![M, n]⟩ h.1 start 0 = 0 := Host.clampedStart_of_le _ _ _ 0 h0 (le_of_eq (Nat.zero_add _))
  have c1 : Host.clampedStart ⟨2, ![M, N]⟩ ⟨2, ![M, n]⟩ h.1 start 1 = o := Host.clampedStart_of_le _ _ _ o h1 ho
  rw [Host.dynamicUpdateSlice_apply]
  by_cases ha : o ≤ a.val ∧ a.val < o + n
  · rw [dif_pos ha, dif_pos, Shape.Idx.norm_def]
    · refine congrArg y (funext fun b => Fin.ext ?_)
      match b with
      | ⟨0, _⟩ => show i.val - Host.clampedStart ⟨2, ![M, N]⟩ ⟨2, ![M, n]⟩ h.1 start 0 = i.val; rw [c0]; rfl
      | ⟨1, _⟩ => show a.val - Host.clampedStart ⟨2, ![M, N]⟩ ⟨2, ![M, n]⟩ h.1 start 1 = a.val - o; rw [c1]
    · intro b
      match b with
      | ⟨0, _⟩ =>
        show Host.clampedStart ⟨2, ![M, N]⟩ ⟨2, ![M, n]⟩ h.1 start 0 ≤ i.val ∧ i.val < Host.clampedStart ⟨2, ![M, N]⟩ ⟨2, ![M, n]⟩ h.1 start 0 + M
        rw [c0]; have := i.isLt; omega
      | ⟨1, _⟩ =>
        show Host.clampedStart ⟨2, ![M, N]⟩ ⟨2, ![M, n]⟩ h.1 start 1 ≤ a.val ∧ a.val < Host.clampedStart ⟨2, ![M, N]⟩ ⟨2, ![M, n]⟩ h.1 start 1 + n
        rw [c1]; exact ha
  · rw [dif_neg ha, dif_neg]
    intro hin
    have h' := hin 1
    have h'' : Host.clampedStart ⟨2, ![M, N]⟩ ⟨2, ![M, n]⟩ h.1 start 1 ≤ a.val ∧ a.val < Host.clampedStart ⟨2, ![M, N]⟩ ⟨2, ![M, n]⟩ h.1 start 1 + n := h'
    rw [c1] at h''
    exact ha h''

end Slices

/-! ## The sum over the columns done so far -/

theorem sum_panels (g : ℕ → ℝ) : ∀ k : ℕ, ∑ a ∈ Finset.range (256 * k), g a = ∑ k' ∈ Finset.range k, ∑ p : Fin 256, g (256 * k' + p.val)
  | 0 => by simp
  | k + 1 => by
    rw [Nat.mul_succ, show ∑ a ∈ Finset.range (256 * k + 256), g a = _ from Finset.sum_range_add g (256 * k) 256, sum_panels g k,
      Finset.sum_range_succ _ k, ← Finset.sum_range (fun p => g (256 * k + p))]

theorem sum_done (g : ℕ → ℝ) (k : ℕ) (hk : k ≤ 16) :
    ∑ a : Fin 4096, (if a.val < 256 * k then g a.val else 0) = ∑ k' ∈ Finset.range k, ∑ p : Fin 256, g (256 * k' + p.val) := by
  rw [← sum_panels, ← Finset.sum_range (fun a => if a < 256 * k then g a else 0), ← Finset.sum_filter]
  refine Finset.sum_congr (Finset.ext fun a => ?_) fun _ _ => rfl
  simp only [Finset.mem_filter, Finset.mem_range]
  omega

/-! ## The trip -/

section Trip
variable (E R : FVec Ideal S1152x4096 .f32) (U : FVec Ideal S4096x4096 .f32) (X : FVec Ideal S16x256x256 .f32)
  (I : IVec S4096 32) (b c : IVec S_ 32)

/-- Where the panel's columns start. -/
def colStart (k : Fin 2) : Int := (((![constantI S_ 32 0#32, select (cmpi .slt c (constantI S_ 32 0#32)) (addi c (constantI S_ 32 4096#32)) c] : Fin 2 → (⟨S_, .i32⟩ : BufTy).Contents (Elt Ideal))) k (Shape.Idx.first h_S_)).toInt
/-- Where the panel's inverse starts. -/
def invStart (k : Fin 3) : Int := (((![select (cmpi .slt b (constantI S_ 32 0#32)) (addi b (constantI S_ 32 16#32)) b, select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32)] : Fin 3 → (⟨S_, .i32⟩ : BufTy).Contents (Elt Ideal))) k (Shape.Idx.first h_S_)).toInt
/-- The panel's columns of `u`, zero from the panel's own rows on. -/
def maskedU : FVec Ideal S4096x256 .f32 := select (broadcastInDim S4096x256 ![0, 1] bcast_S4096x1_S4096x256_0_1 (cmpi .slt (broadcastInDim S4096x1 ![0] bcast_S4096_S4096x1_0 I) (broadcastInDim S4096x1 ![] bcast_S_S4096x1 c))) (Host.dynamicSlice S4096x256 U (colStart c) sliceFits_S4096x4096_S4096x256) (broadcastInDim S4096x256 ![] bcast_S_S4096x256 (id (constant S_ .f32 0x00000000#32)))
/-- The panel's error. -/
def newE : FVec Ideal S1152x256 .f32 := Host.dotGeneral dot_S1152x256_S256x256_S1152x256_1_0_0_1_n_n (some .fp32) (subf (Host.dynamicSlice S1152x256 R (colStart c) sliceFits_S1152x4096_S1152x256) (Host.dotGeneral dot_S1152x4096_S4096x256_S1152x256_1_0_0_1_n_n (some .fp32) E (maskedU U I c))) (shapeCast S256x256 (Host.dynamicSlice S1x256x256 X (invStart b) sliceFits_S16x256x256_S1x256x256) shapeCasts_S1x256x256_S256x256)
/-- The error after the trip. -/
def stepF : FVec Ideal S1152x4096 .f32 := Host.dynamicUpdateSlice E (newE E R U X I b c) (colStart c) updateFits_S1152x4096_S1152x256

theorem step_eq (V0 : Valuation τ sig (Elt Ideal)) : step_main_v38_6 V0
    = stepF (V0 (Proc.devRef .tc main_v38_6)) (V0 (Proc.devRef .tc main_v38_3)) (V0 (Proc.devRef .tc main_v38_1)) (V0 (Proc.devRef .tc main_v38_4))
        (V0 (Proc.devRef .tc main_v38_2)) (res_main_while0b_v40 V0) (res_main_while0b_v41 V0) := rfl

variable (k : ℕ) (hk : k < 16)

theorem v40_eq (V0 : Valuation τ sig (Elt Ideal)) (hk : k < 16) (h0 : V0 (Proc.devRef .tc main_v38_0) = iotaInDim S16 32 0)
    (h5 : V0 (Proc.devRef .tc main_v38_5) = constantI S_ 32 (BitVec.ofNat 32 k)) :
    res_main_while0b_v40 V0 = constantI S_ 32 (BitVec.ofNat 32 k) := by
  unfold res_main_while0b_v40
  rw [h0, h5]
  funext j
  rw [shapeCast_apply _ _ j (ix1 (0 : Fin 1)) rfl]
  exact dslice1 _ _ _ k (toInt_ofNat_of_lt (by omega)) hk

theorem v41_eq (V0 : Valuation τ sig (Elt Ideal)) (hk : k < 16) (h : res_main_while0b_v40 V0 = constantI S_ 32 (BitVec.ofNat 32 k)) :
    res_main_while0b_v41 V0 = constantI S_ 32 (BitVec.ofNat 32 (256 * k)) := by
  unfold res_main_while0b_v41
  rw [h]
  funext j
  show BitVec.ofNat 32 k * 256#32 = BitVec.ofNat 32 (256 * k)
  rw [Nat.mul_comm, ← BitVec.ofNat_mul]

theorem colStart_zero : colStart c 0 = 0 := rfl
theorem colStart_one (hk : k < 16) (hc : c = constantI S_ 32 (BitVec.ofNat 32 (256 * k))) : colStart c 1 = ((256 * k : ℕ) : Int) := by
  subst hc; exact toInt_wrap_ofNat (256 * k) (by omega)
theorem invStart_zero (hk : k < 16) (hb : b = constantI S_ 32 (BitVec.ofNat 32 k)) : invStart b 0 = (k : Int) := by
  subst hb; exact toInt_wrap_ofNat k (by omega)
theorem invStart_one : invStart b 1 = 0 :=
  toInt_wrap_ofNat (s := S_) (d := constantI S_ 32 256#32) (i := Shape.Idx.first h_S_) 0 (by omega)
theorem invStart_two : invStart b 2 = 0 :=
  toInt_wrap_ofNat (s := S_) (d := constantI S_ 32 256#32) (i := Shape.Idx.first h_S_) 0 (by omega)

variable (r0 u : ℕ → ℕ → ℝ) (v : ℕ → ℕ → ℕ → ℝ)

theorem slt_ofNat (a n : ℕ) (ha : a < 2 ^ 31) (hn : n < 2 ^ 31) :
    IntOp.cmpi .slt (BitVec.ofNat 32 a) (BitVec.ofNat 32 n) = BitVec.ofBool (decide (a < n)) := by
  show BitVec.ofBool ((BitVec.ofNat 32 a).slt (BitVec.ofNat 32 n)) = _
  rw [BitVec.slt, toInt_ofNat_of_lt ha, toInt_ofNat_of_lt hn]
  simp

theorem maskedU_apply (hk : k < 16) (hc : c = constantI S_ 32 (BitVec.ofNat 32 (256 * k))) (hI : I = iotaInDim S4096 32 0)
    (hU : ∀ a b : Fin 4096, U (ix2 a b) = ((u a.val b.val : ℝ) : EReal)) (a : Fin 4096) (l : Fin 256) :
    maskedU U I c (ix2 a l) = (((if a.val < 256 * k then u a.val (256 * k + l.val) else 0 : ℝ) : ℝ) : EReal) := by
  have hs := dslice2 U (colStart c) sliceFits_S4096x4096_S4096x256 (256 * k) (colStart_zero c) (colStart_one c k hk hc) (by omega) a l
  rw [hU] at hs
  have hcond : IntOp.cmpi .slt (BitVec.ofNat 32 a.val) (BitVec.ofNat 32 (256 * k)) = BitVec.ofBool (decide (a.val < 256 * k)) :=
    slt_ofNat _ _ (by have := a.isLt; omega) (by omega)
  subst hI hc
  unfold maskedU
  show Scalar.select (IntOp.cmpi .slt (BitVec.ofNat 32 a.val) (BitVec.ofNat 32 (256 * k)))
    (Host.dynamicSlice S4096x256 U (colStart (constantI S_ 32 (BitVec.ofNat 32 (256 * k)))) sliceFits_S4096x4096_S4096x256 (ix2 a l))
    (Ideal.ofBits .f32 0x00000000#32) = _
  rw [hs, Ideal.ofBits_zero_f32]
  rw [hcond]
  by_cases h : a.val < 256 * k
  · rw [if_pos h, decide_eq_true h]; rfl
  · rw [if_neg h, decide_eq_false h]; rfl

/-- The error after `k` panels. -/
def errN (k i a : ℕ) : ℝ := if a < 256 * k then panel r0 u v (a / 256) i (a % 256) else 0

theorem newE_apply (hk : k < 16) (hb : b = constantI S_ 32 (BitVec.ofNat 32 k)) (hc : c = constantI S_ 32 (BitVec.ofNat 32 (256 * k)))
    (hI : I = iotaInDim S4096 32 0) (hU : ∀ a b : Fin 4096, U (ix2 a b) = ((u a.val b.val : ℝ) : EReal))
    (hR : ∀ (i : Fin 1152) (a : Fin 4096), R (ix2 i a) = ((r0 i.val a.val : ℝ) : EReal))
    (hX : ∀ (k : Fin 16) (l j : Fin 256), X (ix3 k l j) = ((v k.val l.val j.val : ℝ) : EReal))
    (hE : ∀ (i : Fin 1152) (a : Fin 4096), E (ix2 i a) = ((errN r0 u v k i.val a.val : ℝ) : EReal)) (i : Fin 1152) (j : Fin 256) :
    newE E R U X I b c (ix2 i j) = ((panel r0 u v k i.val j.val : ℝ) : EReal) := by
  have hprod : ∀ l : Fin 256, Host.dotGeneral dot_S1152x4096_S4096x256_S1152x256_1_0_0_1_n_n (some .fp32) E (maskedU U I c) (ix2 i l)
      = ((∑ k' ∈ Finset.range k, ∑ p : Fin 256, panel r0 u v k' i.val p.val * u (256 * k' + p.val) (256 * k + l.val) : ℝ) : EReal) := by
    intro l
    refine (StackMember.dotGeneral_plain_apply (some .fp32) E (maskedU U I c) i l).trans ?_
    simp only [hE, maskedU_apply U I c k u hk hc hI hU]
    rw [coe_sum_mul]
    refine congrArg _ ?_
    have hs := sum_done (fun a => panel r0 u v (a / 256) i.val (a % 256) * u a (256 * k + l.val)) k (by omega)
    have e1 : ∀ (k' : ℕ) (p : Fin 256), (256 * k' + p.val) / 256 = k' := fun k' p => by have := p.isLt; omega
    have e2 : ∀ (k' : ℕ) (p : Fin 256), (256 * k' + p.val) % 256 = p.val := fun k' p => by have := p.isLt; omega
    simp only [e1, e2] at hs
    rw [← hs]
    refine Finset.sum_congr rfl fun a _ => ?_
    unfold errN
    by_cases h : a.val < 256 * k
    · simp only [if_pos h]
    · simp only [if_neg h, zero_mul]
  unfold newE
  refine (StackMember.dotGeneral_plain_apply (some .fp32) _ _ i j).trans ?_
  rw [panel_eq, ← coe_sum_mul]
  refine Finset.sum_congr rfl fun l _ => ?_
  congr 1
  · show Host.dynamicSlice S1152x256 R (colStart c) sliceFits_S1152x4096_S1152x256 (ix2 i l) - Host.dotGeneral dot_S1152x4096_S4096x256_S1152x256_1_0_0_1_n_n (some .fp32) E (maskedU U I c) (ix2 i l) = _
    have hs := dslice2 R (colStart c) sliceFits_S1152x4096_S1152x256 (256 * k) (colStart_zero c) (colStart_one c k hk hc) (by omega) i l
    rw [hR] at hs
    rw [hprod l]
    refine (congrArg (fun z : EReal => z - _) hs).trans ?_
    rw [← EReal.coe_sub]
    rfl
  · rw [shapeCast_1ab_ab_apply]
    exact (dslice3 X (invStart b) sliceFits_S16x256x256_S1x256x256 k (invStart_zero b k hk hb) (invStart_one b) (invStart_two b) hk l j).trans (hX _ _ _)

theorem stepF_apply (hk : k < 16) (hb : b = constantI S_ 32 (BitVec.ofNat 32 k)) (hc : c = constantI S_ 32 (BitVec.ofNat 32 (256 * k)))
    (hI : I = iotaInDim S4096 32 0) (hU : ∀ a b : Fin 4096, U (ix2 a b) = ((u a.val b.val : ℝ) : EReal))
    (hR : ∀ (i : Fin 1152) (a : Fin 4096), R (ix2 i a) = ((r0 i.val a.val : ℝ) : EReal))
    (hX : ∀ (k : Fin 16) (l j : Fin 256), X (ix3 k l j) = ((v k.val l.val j.val : ℝ) : EReal))
    (hE : ∀ (i : Fin 1152) (a : Fin 4096), E (ix2 i a) = ((errN r0 u v k i.val a.val : ℝ) : EReal)) (i : Fin 1152) (a : Fin 4096) :
    stepF E R U X I b c (ix2 i a) = ((errN r0 u v (k + 1) i.val a.val : ℝ) : EReal) := by
  unfold stepF
  refine (dupdate2 E _ (colStart c) updateFits_S1152x4096_S1152x256 (256 * k) (colStart_zero c) (colStart_one c k hk hc) (by omega) i a).trans ?_
  by_cases ha : 256 * k ≤ a.val ∧ a.val < 256 * k + 256
  · rw [dif_pos ha, newE_apply E R U X I b c k r0 u v hk hb hc hI hU hR hX hE]
    unfold errN
    rw [if_pos (by omega), show a.val / 256 = k by omega, show a.val % 256 = a.val - 256 * k by omega]
  · rw [dif_neg ha, hE]
    unfold errN
    by_cases h : a.val < 256 * k
    · rw [if_pos h, if_pos (by omega)]
    · rw [if_neg h, if_neg (by omega)]

end Trip

end Cert.ReferenceIdeal.Hand
-- ==== Proof.RefValue.lean ====
module

public import proofs.«01_k».proof.Proof.RefEntry
public import proofs.«01_k».proof.Proof.RefStep

/-!
# The reference's values

The loop's invariant, trip by trip, and both results at the program's end.
-/

@[expose] public section

set_option maxRecDepth 16384

noncomputable section

namespace Cert.ReferenceIdeal.Hand

open Cert.ReferenceIdeal Cert.ReferenceIdeal.Gen Cert.ReferenceIdeal.Value Cert.Sem
open Idealize.ShloMosaic hiding ix1 ix2 ix3 ix4
open Idealize.ShloMosaic.TcCoe Idealize.ShloMosaic.Tactic Idealize.ShloMosaic.ValueIdx
open Idealize.ShloMosaic.StableHlo
open Idealize.SL.Sem

variable (m : (ℓ : Loc nD τ sig) → Buf (Elt Ideal) ℓ) (ρ : Dev nD → PrngReg) (c : Dev nD)

/-- The weights. -/
abbrev bW : IW → EReal := m ((c.tc : Thread nD τ).loc main_arg0)
/-- The codes. -/
abbrev bC : IC → BitVec 8 := m ((c.tc : Thread nD τ).loc main_arg1)
/-- The codebook. -/
abbrev bK : IK → EReal := m ((c.tc : Thread nD τ).loc main_arg2)
/-- The factor. -/
abbrev bU : IU → EReal := m ((c.tc : Thread nD τ).loc main_arg3)
/-- The panels' inverses. -/
abbrev bX : IV → EReal := m ((c.tc : Thread nD τ).loc main_arg4)

/-! ## The loop's entry -/

/-- The contents before the last stretch ahead of the loop. -/
abbrev mid : Valuation τ sig (Elt Ideal) := after hostOps0_1 (after hostOps0 (launchContents m c))

theorem mid_keep (r : Ref sig .tc) (h0 : r ∉ hostOps0_W) (h1 : r ∉ hostOps0_1_W) :
    mid m c (Proc.devRef .tc r) = m ((c.tc : Thread nD τ).loc r) := by
  show after hostOps0_1 (after hostOps0 (launchContents m c)) _ = _
  rw [after_of_writes_sub hostOps0_1 _ hostOps0_1_writes h1, after_of_writes_sub hostOps0 _ hostOps0_writes h0]

theorem mid_mats : mid m c (Proc.devRef .tc main_v1) = broadcastInDim S3x1x1 ![0] bcast_S3_S3x1x1_0 (iotaInDim S3 32 0) :=
  (after_of_writes_sub hostOps0_1 _ hostOps0_1_writes (by decide)).trans (mats_of _)

theorem mid_blocks : mid m c (Proc.devRef .tc main_v5) = fun j => BitVec.ofNat 32 ((j 0).val / 32) :=
  blocks_of _ (cols_of _) (width_of _)

theorem qRef_eq : qRef (mid m c (Proc.devRef .tc main_arg1)) (mid m c (Proc.devRef .tc main_arg2)) (mid m c (Proc.devRef .tc main_v1))
    (mid m c (Proc.devRef .tc main_v5)) = qV (bC m c) (bK m c) := by
  rw [mid_keep m c main_arg1 (by decide) (by decide), mid_keep m c main_arg2 (by decide) (by decide)]
  funext y
  obtain ⟨a, r, j, rfl⟩ : ∃ (a : Fin 3) (r : Fin 384) (j : Fin 4096), y = ix3 a r j := ⟨y 0, y 1, y 2, ValueIdx.eq_ix3 y⟩
  exact qRef_apply _ _ _ a r _ (mid_mats m c) (mid_blocks m c) j

theorem entry_q : entryContents preI m c (Proc.devRef .tc main_v30) = qV (bC m c) (bK m c) :=
  (q_of (mid m c)).trans (qRef_eq m c)

theorem entry_resid (h : AllReal (bW m c) (bK m c) (bU m c) (bX m c)) (i : Fin 1152) (a : Fin 4096) :
    (entryContents preI m c (Proc.devRef .tc main_v38_3) : FVec Ideal S1152x4096 .f32) (ix2 i a)
      = ((r0V (bW m c) (bC m c) (bK m c) i.val a.val : ℝ) : EReal) := by
  refine (congrFun (resid_of (mid m c)) (ix2 i a)).trans ?_
  rw [qRef_eq, mid_keep m c main_arg0 (by decide) (by decide)]
  have hi := i.isLt
  have ha := a.isLt
  rw [shapeCast_apply _ _ (ix2 i a) (rc i.val a.val)
    (by rw [Shape.rowMajor_val_two, Shape.rowMajor_val_three]
        show ((i.val / 384 % 3 * 384 + i.val % 384 % 384) * 4096 + a.val % 4096) = i.val * 4096 + a.val; omega)]
  exact h.r0 i.val a.val

/-! ## The loop -/

/-- What holds before trip `k`. -/
structure Inv (k : ℕ) (V : Valuation τ sig (Elt Ideal)) : Prop where
  trips : V (Proc.devRef .tc main_v38_0) = iotaInDim S16 32 0
  u : V (Proc.devRef .tc main_v38_1) = bU m c
  rows : V (Proc.devRef .tc main_v38_2) = iotaInDim S4096 32 0
  resid : ∀ (i : Fin 1152) (a : Fin 4096), (V (Proc.devRef .tc main_v38_3) : FVec Ideal S1152x4096 .f32) (ix2 i a)
    = ((r0V (bW m c) (bC m c) (bK m c) i.val a.val : ℝ) : EReal)
  x : V (Proc.devRef .tc main_v38_4) = bX m c
  ctr : V (Proc.devRef .tc main_v38_5) = constantI S_ 32 (BitVec.ofNat 32 k)
  err : ∀ (i : Fin 1152) (a : Fin 4096), (V (Proc.devRef .tc main_v38_6) : FVec Ideal S1152x4096 .f32) (ix2 i a)
    = ((errN (r0V (bW m c) (bC m c) (bK m c)) (uV (bU m c)) (vV (bX m c)) k i.val a.val : ℝ) : EReal)

theorem inv_entry (h : AllReal (bW m c) (bK m c) (bU m c) (bX m c)) : Inv m c 0 (entryContents preI m c) where
  trips := trips_of (mid m c)
  u := (u_of (mid m c)).trans (mid_keep m c main_arg3 (by decide) (by decide))
  rows := rows_of (mid m c)
  resid := entry_resid m c h
  x := (x_of (mid m c)).trans (mid_keep m c main_arg4 (by decide) (by decide))
  ctr := ctr_entry m c
  err i a := (congrFun (zeros_of (mid m c)) (ix2 i a)).trans (by
    show Ideal.ofBits .f32 0x00000000#32 = _
    rw [Ideal.ofBits_zero_f32]
    unfold errN
    rw [if_neg (by omega)]
    rfl)

theorem inv_step (h : AllReal (bW m c) (bK m c) (bU m c) (bX m c)) (k : ℕ) (hk : k < 16) (V : Valuation τ sig (Elt Ideal)) (hV : Inv m c k V) :
    Inv m c (k + 1) (STEP V) where
  trips := (STEP_main_v38_0 V).trans hV.trips
  u := (STEP_main_v38_1 V).trans hV.u
  rows := (STEP_main_v38_2 V).trans hV.rows
  resid i a := (congrFun (STEP_main_v38_3 V) (ix2 i a)).trans (hV.resid i a)
  x := (STEP_main_v38_4 V).trans hV.x
  ctr := by
    rw [STEP_main_v38_5 V]
    unfold step_main_v38_5
    rw [hV.ctr]
    funext j
    show BitVec.ofNat 32 k + 1#32 = BitVec.ofNat 32 (k + 1)
    rw [← BitVec.ofNat_add]
  err i a := by
    have h40 := v40_eq k V hk hV.trips hV.ctr
    refine (congrFun ((STEP_main_v38_6 V).trans (step_eq V)) (ix2 i a)).trans ?_
    exact stepF_apply _ _ _ _ _ _ _ k (r0V (bW m c) (bC m c) (bK m c)) (uV (bU m c)) (vV (bX m c)) hk h40 (v41_eq k V hk h40) hV.rows
      (fun a b => (congrFun hV.u (ix2 a b)).trans (h.u_eq a b)) hV.resid
      (fun k l j => (congrFun hV.x (ix3 k l j)).trans (h.v_eq k l j)) hV.err i a

theorem inv_iter (h : AllReal (bW m c) (bK m c) (bU m c) (bX m c)) : ∀ k : ℕ, k ≤ 16 → Inv m c k (STEP^[k] (entryContents preI m c))
  | 0, _ => inv_entry m c h
  | k + 1, hk => by
    rw [Function.iterate_succ_apply']
    exact inv_step m c h k (by omega) _ (inv_iter h k (by omega))

/-! ## The results -/

theorem final_q : finalContents condOps preI bodyI postI 16 m c (Proc.devRef .tc main_v30) = qV (bC m c) (bK m c) :=
  (final_keep m c main_v30 (by decide) (by decide) (by decide) (by decide) (by decide) (by decide)).trans (entry_q m c)

theorem shape_of (Y : Valuation τ sig (Elt Ideal)) : after hostOps0_3 Y (Proc.devRef .tc main_v39)
    = shapeCast S3x384x4096 (Y (Proc.devRef .tc main_v38_6) : FVec Ideal S1152x4096 .f32) shapeCasts_S1152x4096_S3x384x4096 := by
  after_results
  rfl

theorem final_e (h : AllReal (bW m c) (bK m c) (bU m c) (bX m c)) :
    finalContents condOps preI bodyI postI 16 m c (Proc.devRef .tc main_v39) = eV (bW m c) (bC m c) (bK m c) (bU m c) (bX m c) := by
  refine (shape_of (after condOps (atK m 16 c))).trans ?_
  rw [after_of_writes_sub condOps _ condOps_writes (show main_v38_6 ∉ condOps_W by decide), atK_agree m c 16 main_v38_6 (by decide)]
  funext y
  obtain ⟨a, r, j, rfl⟩ : ∃ (a : Fin 3) (r : Fin 384) (j : Fin 4096), y = ix3 a r j := ⟨y 0, y 1, y 2, ValueIdx.eq_ix3 y⟩
  have ha := a.isLt
  have hr := r.isLt
  have hj := j.isLt
  rw [shapeCast_apply _ _ (ix3 a r j) (ix2 (⟨384 * a.val + r.val, by omega⟩ : Fin 1152) j)
    (by rw [Shape.rowMajor_val_two, Shape.rowMajor_val_three]
        show (384 * a.val + r.val) * 4096 + j.val = (a.val * 384 + r.val) * 4096 + j.val; omega)]
  rw [(inv_iter m c h 16 (le_refl 16)).err]
  unfold errN
  rw [if_pos (by show j.val < 256 * 16; omega)]
  rfl

/-- The reference ends with both results as specified and its arguments unchanged. -/
theorem value_run (h : ∀ c, AllReal (bW m c) (bK m c) (bU m c) (bX m c)) :
    θ_run defs (onTc (τ := τ) (main (F := Ideal))) ⟨m, fun _ => 0, ρ⟩ (fun r => ∀ c : Dev nD,
      r.2.mem ((c.tc : Thread nD τ).loc main_v30) = qV (bC m c) (bK m c)
      ∧ r.2.mem ((c.tc : Thread nD τ).loc main_v39) = eV (bW m c) (bC m c) (bK m c) (bU m c) (bX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
      ⟨(hr c main_v30 rfl).trans (final_q m c), (hr c main_v39 rfl).trans (final_e m c (h c)),
       (hr c main_arg0 rfl).trans (final_arg0 m c), (hr c main_arg1 rfl).trans (final_arg1 m c),
       (hr c main_arg2 rfl).trans (final_arg2 m c), (hr c main_arg3 rfl).trans (final_arg3 m c),
       (hr c main_arg4 rfl).trans (final_arg4 m c)⟩) (run_fold m ρ)

end Cert.ReferenceIdeal.Hand
-- ==== Proof.lean ====
/- The claims of this certificate, put together from the modules under Proof/. -/
module

public import proofs.«01_k».proof.Defs
public import proofs.«01_k».proof.Proof.PropFrame
public import proofs.«01_k».proof.Proof.PropIdealFrame
public import proofs.«01_k».proof.Proof.RefRun
public import proofs.«01_k».proof.Proof.RunValue
public import proofs.«01_k».proof.Proof.Finite
public import proofs.«01_k».proof.Proof.RefValue
public import Idealize.ShloMosaic.Adequacy
public import Idealize.ShloMosaic.Init

@[expose] public section

noncomputable section

namespace Cert.Proof

open Idealize.ShloMosaic Idealize.SL.Sem Cert.Sem

/-- From equal arguments, within the precondition, kernel and reference end with equal results: both are the specified ones. -/
theorem algebraic : Cert.algebraic_PropIdeal_ReferenceIdeal_pre_finite (hPropIdeal := Cert.PropIdeal.Gen.facts)
    (hReferenceIdeal := Cert.ReferenceIdeal.Gen.facts) (hPre_finite := preFacts) := by
  intro m g m' g' hpre heq
  have hk : ∀ c : Dev Cert.PropIdeal.nD, AllReal (Cert.PropIdeal.Hand.aW m c) (Cert.PropIdeal.Hand.aK m c) (Cert.PropIdeal.Hand.aU m c)
      (Cert.PropIdeal.Hand.aX m c) := fun c => allReal_of_fn (hp := preFacts) _ _ _ _ _ (hpre c)
  have e0 : ∀ c, Cert.ReferenceIdeal.Hand.bW m' c = Cert.PropIdeal.Hand.aW m c := fun c => (heq c).1
  have e1 : ∀ c, Cert.ReferenceIdeal.Hand.bC m' c = Cert.PropIdeal.Hand.aC m c := fun c => (heq c).2.1
  have e2 : ∀ c, Cert.ReferenceIdeal.Hand.bK m' c = Cert.PropIdeal.Hand.aK m c := fun c => (heq c).2.2.1
  have e3 : ∀ c, Cert.ReferenceIdeal.Hand.bU m' c = Cert.PropIdeal.Hand.aU m c := fun c => (heq c).2.2.2.1
  have e4 : ∀ c, Cert.ReferenceIdeal.Hand.bX m' c = Cert.PropIdeal.Hand.aX m c := fun c => (heq c).2.2.2.2
  refine ⟨Cert.PropIdeal.Hand.qArr m, Cert.PropIdeal.Hand.eArr m, Cert.PropIdeal.Hand.value_run m g hk, ?_⟩
  have hr : ∀ c : Dev Cert.ReferenceIdeal.nD, AllReal (Cert.ReferenceIdeal.Hand.bW m' c) (Cert.ReferenceIdeal.Hand.bK m' c)
      (Cert.ReferenceIdeal.Hand.bU m' c) (Cert.ReferenceIdeal.Hand.bX m' c) := fun c => by
    rw [e0 c, e2 c, e3 c, e4 c]; exact hk c
  refine (θ_run _ _ _).mono (fun r h c => ?_) (Cert.ReferenceIdeal.Hand.value_run m' g' hr)
  obtain ⟨hq, he, ha⟩ := h c
  refine ⟨hq.trans ?_, he.trans ?_, ha⟩
  · rw [e1 c, e2 c]; rfl
  · rw [e0 c, e1 c, e2 c, e3 c, e4 c]; rfl

theorem claim : Cert.Claim := ⟨Cert.Prop.Gen.facts, Cert.PropIdeal.Gen.facts, Cert.ReferenceIdeal.Gen.facts, preFacts,
  fun m ρ _ => Cert.Prop.Hand.frame m ρ,
  fun m ρ _ => Cert.PropIdeal.Hand.frame m ρ, fun m ρ _ => Cert.PropIdeal.Hand.frame m ρ,
  fun m ρ _ => Cert.ReferenceIdeal.Hand.frame m ρ, fun m ρ _ => Cert.ReferenceIdeal.Hand.frame m ρ,
  trivial, algebraic⟩

end Cert.Proof

end
